-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "neg_ln1e4_48" .f32 0xBE447CBD#32 ((-((Real.log 10000) * (1 / 48)) : ℝ) : EReal)
  ∧ IdealRules.named_const.Statement Cert.KernelIdeal.κ "half_pi" .f32 0x3FC90FDB#32 (((1 / 2) * Real.pi : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x8x8x12x7x768 : Shape := ⟨6, ![4, 8, 8, 12, 7, 768]⟩
abbrev S4x8x8x3x768 : Shape := ⟨5, ![4, 8, 8, 3, 768]⟩
abbrev S4x12x3x768 : Shape := ⟨4, ![4, 12, 3, 768]⟩
abbrev S4x3x768 : Shape := ⟨3, ![4, 3, 768]⟩
abbrev S4x12 : Shape := ⟨2, ![4, 12]⟩
abbrev S_ : Shape := ⟨0, ![]⟩
abbrev S24x192 : Shape := ⟨2, ![24, 192]⟩
abbrev S12x192 : Shape := ⟨2, ![12, 192]⟩
abbrev S7x192 : Shape := ⟨2, ![7, 192]⟩
abbrev S3x192 : Shape := ⟨2, ![3, 192]⟩

class Facts : Prop where
  bcast_S_S4x12 : S_.BroadcastsInDim S4x12 (![] : Fin 0 → Fin S4x12.rank)
  reducesTo_S4x12_S_d0_1 : S4x12.ReducesTo [0, 1] S_
  h_S_ : 0 < S_.numel

variable [Facts]

def fn {F : FTy → Type} [FloatOps F] (main_arg0 : FVec F S4x8x8x12x7x768 .f32) (main_arg1 : FVec F S4x8x8x3x768 .f32) (main_arg2 : FVec F S4x12x3x768 .f32) (main_arg3 : FVec F S4x3x768 .f32) (main_arg4 : IVec S4x12 32) (main_arg5 : IVec S_ 32) (main_arg6 : IVec S_ 32) (main_arg7 : FVec F S24x192 .f32) (main_arg8 : FVec F S12x192 .f32) (main_arg9 : FVec F S7x192 .f32) (main_arg10 : FVec F S3x192 .f32) (main_arg11 : FVec F S3x192 .f32) (main_arg12 : FVec F S3x192 .f32) : IVec S_ 1 :=
  let main_c : IVec S_ 32 := constantI S_ 32 0#32
  let main_v0 : IVec S4x12 32 := broadcastInDim S4x12 ![] bcast_S_S4x12 main_c
  let main_v1 : IVec S4x12 1 := cmpi .sge main_arg4 main_v0
  let main_c_0 : IVec S_ 1 := constantI S_ 1 1#1
  let main_v2 : IVec S_ 1 := (fun x v => Host.reduce IntOp.andi x v reducesTo_S4x12_S_d0_1 h_S_) main_v1 main_c_0
  let main_c_1 : IVec S_ 32 := constantI S_ 32 12#32
  let main_v3 : IVec S4x12 32 := broadcastInDim S4x12 ![] bcast_S_S4x12 main_c_1
  let main_v4 : IVec S4x12 1 := cmpi .slt main_arg4 main_v3
  let main_c_2 : IVec S_ 1 := constantI S_ 1 1#1
  let main_v5 : IVec S_ 1 := (fun x v => Host.reduce IntOp.andi x v reducesTo_S4x12_S_d0_1 h_S_) main_v4 main_c_2
  let main_v6 : IVec S_ 1 := andi main_v2 main_v5
  let main_c_3 : IVec S_ 32 := constantI S_ 32 0#32
  let main_v7 : IVec S_ 1 := cmpi .sge main_arg5 main_c_3
  let main_v8 : IVec S_ 1 := andi main_v6 main_v7
  let main_c_4 : IVec S_ 32 := constantI S_ 32 4096#32
  let main_v9 : IVec S_ 1 := cmpi .sle main_arg5 main_c_4
  let main_v10 : IVec S_ 1 := andi main_v8 main_v9
  let main_c_5 : IVec S_ 32 := constantI S_ 32 0#32
  let main_v11 : IVec S_ 1 := cmpi .sge main_arg6 main_c_5
  let main_v12 : IVec S_ 1 := andi main_v10 main_v11
  let main_c_6 : IVec S_ 32 := constantI S_ 32 4096#32
  let main_v13 : IVec S_ 1 := cmpi .sle main_arg6 main_c_6
  let main_v14 : IVec S_ 1 := andi main_v12 main_v13
  main_v14
-- ==== Kernel.lean ====
abbrev S4x8x8x12x7x768 : Shape := ⟨6, ![4, 8, 8, 12, 7, 768]⟩
abbrev S4x8x8x3x768 : Shape := ⟨5, ![4, 8, 8, 3, 768]⟩
abbrev S4x12x3x768 : Shape := ⟨4, ![4, 12, 3, 768]⟩
abbrev S4x3x768 : Shape := ⟨3, ![4, 3, 768]⟩
abbrev S4x12 : Shape := ⟨2, ![4, 12]⟩
abbrev S_ : Shape := ⟨0, ![]⟩
abbrev S24x192 : Shape := ⟨2, ![24, 192]⟩
abbrev S12x192 : Shape := ⟨2, ![12, 192]⟩
abbrev S7x192 : Shape := ⟨2, ![7, 192]⟩
abbrev S3x192 : Shape := ⟨2, ![3, 192]⟩
abbrev S1 : Shape := ⟨1, ![1]⟩
abbrev S4x8x12x7x8x768 : Shape := ⟨6, ![4, 8, 12, 7, 8, 768]⟩
abbrev S4x8x3x8x768 : Shape := ⟨5, ![4, 8, 3, 8, 768]⟩
abbrev S12x3x4x768 : Shape := ⟨4, ![12, 3, 4, 768]⟩
abbrev S3x4x768 : Shape := ⟨3, ![3, 4, 768]⟩
abbrev S1x4x12x7x8x768 : Shape := ⟨6, ![1, 4, 12, 7, 8, 768]⟩
abbrev S1x4x3x8x768 : Shape := ⟨5, ![1, 4, 3, 8, 768]⟩
abbrev S12x7x768 : Shape := ⟨3, ![12, 7, 768]⟩
abbrev S8x8x768 : Shape := ⟨3, ![8, 8, 768]⟩
abbrev S8x8x192 : Shape := ⟨3, ![8, 8, 192]⟩
abbrev S8x8x576 : Shape := ⟨3, ![8, 8, 576]⟩
abbrev S1x1 : Shape := ⟨2, ![1, 1]⟩
abbrev S1x192 : Shape := ⟨2, ![1, 192]⟩
abbrev S48x192 : Shape := ⟨2, ![48, 192]⟩
abbrev S12x4x192 : Shape := ⟨3, ![12, 4, 192]⟩
abbrev S1x3x1x192 : Shape := ⟨4, ![1, 3, 1, 192]⟩
abbrev S12x3x4x192 : Shape := ⟨4, ![12, 3, 4, 192]⟩
abbrev S12x1x1x192 : Shape := ⟨4, ![12, 1, 1, 192]⟩
abbrev S12x1x4x192 : Shape := ⟨4, ![12, 1, 4, 192]⟩
abbrev S3x576 : Shape := ⟨2, ![3, 576]⟩
abbrev S3x768 : Shape := ⟨2, ![3, 768]⟩
abbrev S3x1x768 : Shape := ⟨3, ![3, 1, 768]⟩
abbrev S1x7x192 : Shape := ⟨3, ![1, 7, 192]⟩
abbrev S12x7x192 : Shape := ⟨3, ![12, 7, 192]⟩
abbrev S12x1x192 : Shape := ⟨3, ![12, 1, 192]⟩
abbrev S4x8x768 : Shape := ⟨3, ![4, 8, 768]⟩
abbrev S4x12x7x8x768 : Shape := ⟨5, ![4, 12, 7, 8, 768]⟩
abbrev S1x12x7x1x768 : Shape := ⟨5, ![1, 12, 7, 1, 768]⟩
abbrev S4x1x1x8x768 : Shape := ⟨5, ![4, 1, 1, 8, 768]⟩
abbrev S4x3x8x768 : Shape := ⟨4, ![4, 3, 8, 768]⟩
abbrev S1x3x1x768 : Shape := ⟨4, ![1, 3, 1, 768]⟩
abbrev S4x1x8x768 : Shape := ⟨4, ![4, 1, 8, 768]⟩

abbrev nBuf : Space → Nat
  | .hbm => 33
  | .vmem => 20
  | .smem => 2
  | _ => 0

abbrev bufTy : (tb : Table) → Fin (tcTables nBuf tb) → BufTy
  | .hbm, ⟨0, _⟩ => ⟨S4x8x8x12x7x768, .f32⟩
  | .hbm, ⟨1, _⟩ => ⟨S4x8x8x3x768, .f32⟩
  | .hbm, ⟨2, _⟩ => ⟨S4x12x3x768, .f32⟩
  | .hbm, ⟨3, _⟩ => ⟨S4x3x768, .f32⟩
  | .hbm, ⟨4, _⟩ => ⟨S4x12, .i32⟩
  | .hbm, ⟨5, _⟩ => ⟨S_, .i32⟩
  | .hbm, ⟨6, _⟩ => ⟨S_, .i32⟩
  | .hbm, ⟨7, _⟩ => ⟨S24x192, .f32⟩
  | .hbm, ⟨8, _⟩ => ⟨S12x192, .f32⟩
  | .hbm, ⟨9, _⟩ => ⟨S7x192, .f32⟩
  | .hbm, ⟨10, _⟩ => ⟨S3x192, .f32⟩
  | .hbm, ⟨11, _⟩ => ⟨S3x192, .f32⟩
  | .hbm, ⟨12, _⟩ => ⟨S3x192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S4x8x12x7x8x768, .f32⟩
  | .hbm, ⟨20, _⟩ => ⟨S4x8x3x8x768, .f32⟩
  | .hbm, ⟨21, _⟩ => ⟨S12x3x4x768, .f32⟩
  | .hbm, ⟨22, _⟩ => ⟨S3x4x768, .f32⟩
  | .hbm, ⟨23, _⟩ => ⟨S12x192, .f32⟩
  | .hbm, ⟨24, _⟩ => ⟨S12x192, .f32⟩
  | .hbm, ⟨25, _⟩ => ⟨S4x8x12x7x8x768, .f32⟩
  | .hbm, ⟨26, _⟩ => ⟨S4x8x3x8x768, .f32⟩
  | .hbm, ⟨27, _⟩ => ⟨S12x3x4x768, .f32⟩
  | .hbm, ⟨28, _⟩ => ⟨S3x4x768, .f32⟩
  | .hbm, ⟨29, _⟩ => ⟨S4x8x8x12x7x768, .f32⟩
  | .hbm, ⟨30, _⟩ => ⟨S4x8x8x3x768, .f32⟩
  | .hbm, ⟨31, _⟩ => ⟨S4x12x3x768, .f32⟩
  | .hbm, ⟨32, _⟩ => ⟨S4x3x768, .f32⟩
  | .local _ .vmem, ⟨0, _⟩ => ⟨S12x192, .f32⟩
  | .local _ .vmem, ⟨1, _⟩ => ⟨S12x192, .f32⟩
  | .local _ .vmem, ⟨2, _⟩ => ⟨S7x192, .f32⟩
  | .local _ .vmem, ⟨3, _⟩ => ⟨S3x192, .f32⟩
  | .local _ .vmem, ⟨4, _⟩ => ⟨S3x192, .f32⟩
  | .local _ .vmem, ⟨5, _⟩ => ⟨S3x192, .f32⟩
  | .local _ .vmem, ⟨6, _⟩ => ⟨S1x4x12x7x8x768, .f32⟩
  | .local _ .vmem, ⟨7, _⟩ => ⟨S1x4x12x7x8x768, .f32⟩
  | .local _ .vmem, ⟨8, _⟩ => ⟨S1x4x3x8x768, .f32⟩
  | .local _ .vmem, ⟨9, _⟩ => ⟨S1x4x3x8x768, .f32⟩
  | .local _ .vmem, ⟨10, _⟩ => ⟨S12x3x4x768, .f32⟩
  | .local _ .vmem, ⟨11, _⟩ => ⟨S3x4x768, .f32⟩
  | .local _ .vmem, ⟨12, _⟩ => ⟨S1x4x12x7x8x768, .f32⟩
  | .local _ .vmem, ⟨13, _⟩ => ⟨S1x4x12x7x8x768, .f32⟩
  | .local _ .vmem, ⟨14, _⟩ => ⟨S1x4x3x8x768, .f32⟩
  | .local _ .vmem, ⟨15, _⟩ => ⟨S1x4x3x8x768, .f32⟩
  | .local _ .vmem, ⟨16, _⟩ => ⟨S12x3x4x768, .f32⟩
  | .local _ .vmem, ⟨17, _⟩ => ⟨S3x4x768, .f32⟩
  | .local _ .vmem, ⟨18, _⟩ => ⟨S12x7x768, .f32⟩
  | .local _ .vmem, ⟨19, _⟩ => ⟨S8x8x768, .f32⟩
  | .local _ .smem, ⟨0, _⟩ => ⟨S4x12, .i32⟩
  | .local _ .smem, ⟨1, _⟩ => ⟨S1, .f32⟩
  | _, _ => ⟨S4x8x8x12x7x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg15_0 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (v99 : BitVec 32) : Fin 2 → Nat :=
  let v100 : Index := Scalar.indexCast v99
  let c0_55 : Index := 0#32
  ![v100.toNat, 0]

def k0_chk1 (i : grid0.Coords) (v99 : BitVec 32) : Prop :=
  (∀ (k0_h1 : k0_cond1 i = 1#1), ∀ a, (k0_off1 v99) a + S1x192.size a ≤ S12x192.size a)
theorem k0_off1_inb : ∀ (i : grid0.Coords) (v99 : BitVec 32) (k0_hw1 : k0_chk1 i v99), ∀ (k0_h1 : k0_cond1 i = 1#1), ∀ a, (k0_off1 v99) a + S1x192.size a ≤ S12x192.size a := fun i v99 k0_hw1 k0_h1 => k0_hw1 k0_h1

def k0_off2 (v102 : BitVec 32) : Fin 2 → Nat :=
  let v103 : Index := Scalar.indexCast v102
  let c0_57 : Index := 0#32
  ![v103.toNat, 0]

def k0_chk2 (i : grid0.Coords) (v102 : BitVec 32) : Prop :=
  (∀ (k0_h1 : k0_cond1 i = 1#1), ∀ a, (k0_off2 v102) a + S1x192.size a ≤ S12x192.size a)
theorem k0_off2_inb : ∀ (i : grid0.Coords) (v102 : BitVec 32) (k0_hw2 : k0_chk2 i v102), ∀ (k0_h1 : k0_cond1 i = 1#1), ∀ a, (k0_off2 v102) a + S1x192.size a ≤ S12x192.size a := fun i v102 k0_hw2 k0_h1 => k0_hw2 k0_h1

def k0_off3 (v105 : BitVec 32) : Fin 2 → Nat :=
  let v106 : Index := Scalar.indexCast v105
  let c0_59 : Index := 0#32
  ![v106.toNat, 0]

def k0_chk3 (i : grid0.Coords) (v105 : BitVec 32) : Prop :=
  (∀ (k0_h1 : k0_cond1 i = 1#1), ∀ a, (k0_off3 v105) a + S1x192.size a ≤ S12x192.size a)
theorem k0_off3_inb : ∀ (i : grid0.Coords) (v105 : BitVec 32) (k0_hw3 : k0_chk3 i v105), ∀ (k0_h1 : k0_cond1 i = 1#1), ∀ a, (k0_off3 v105) a + S1x192.size a ≤ S12x192.size a := fun i v105 k0_hw3 k0_h1 => k0_hw3 k0_h1

def k0_off4 (v108 : BitVec 32) : Fin 2 → Nat :=
  let v109 : Index := Scalar.indexCast v108
  let c0_61 : Index := 0#32
  ![v109.toNat, 0]

def k0_chk4 (i : grid0.Coords) (v108 : BitVec 32) : Prop :=
  (∀ (k0_h1 : k0_cond1 i = 1#1), ∀ a, (k0_off4 v108) a + S1x192.size a ≤ S12x192.size a)
theorem k0_off4_inb : ∀ (i : grid0.Coords) (v108 : BitVec 32) (k0_hw4 : k0_chk4 i v108), ∀ (k0_h1 : k0_cond1 i = 1#1), ∀ a, (k0_off4 v108) a + S1x192.size a ≤ S12x192.size a := fun i v108 k0_hw4 k0_h1 => k0_hw4 k0_h1

def k0_off5 (v111 : BitVec 32) : Fin 2 → Nat :=
  let v112 : Index := Scalar.indexCast v111
  let c0_64 : Index := 0#32
  ![v112.toNat, 0]

def k0_chk5 (i : grid0.Coords) (v111 : BitVec 32) : Prop :=
  (∀ (k0_h1 : k0_cond1 i = 1#1), ∀ a, (k0_off5 v111) a + S1x192.size a ≤ S12x192.size a)
theorem k0_off5_inb : ∀ (i : grid0.Coords) (v111 : BitVec 32) (k0_hw5 : k0_chk5 i v111), ∀ (k0_h1 : k0_cond1 i = 1#1), ∀ a, (k0_off5 v111) a + S1x192.size a ≤ S12x192.size a := fun i v111 k0_hw5 k0_h1 => k0_hw5 k0_h1

def k0_off6 (v114 : BitVec 32) : Fin 2 → Nat :=
  let v115 : Index := Scalar.indexCast v114
  let c0_67 : Index := 0#32
  ![v115.toNat, 0]

def k0_chk6 (i : grid0.Coords) (v114 : BitVec 32) : Prop :=
  (∀ (k0_h1 : k0_cond1 i = 1#1), ∀ a, (k0_off6 v114) a + S1x192.size a ≤ S12x192.size a)
theorem k0_off6_inb : ∀ (i : grid0.Coords) (v114 : BitVec 32) (k0_hw6 : k0_chk6 i v114), ∀ (k0_h1 : k0_cond1 i = 1#1), ∀ a, (k0_off6 v114) a + S1x192.size a ≤ S12x192.size a := fun i v114 k0_hw6 k0_h1 => k0_hw6 k0_h1

def k0_off7 (v117 : BitVec 32) : Fin 2 → Nat :=
  let v118 : Index := Scalar.indexCast v117
  let c0_70 : Index := 0#32
  ![v118.toNat, 0]

def k0_chk7 (i : grid0.Coords) (v117 : BitVec 32) : Prop :=
  (∀ (k0_h1 : k0_cond1 i = 1#1), ∀ a, (k0_off7 v117) a + S1x192.size a ≤ S12x192.size a)
theorem k0_off7_inb : ∀ (i : grid0.Coords) (v117 : BitVec 32) (k0_hw7 : k0_chk7 i v117), ∀ (k0_h1 : k0_cond1 i = 1#1), ∀ a, (k0_off7 v117) a + S1x192.size a ≤ S12x192.size a := fun i v117 k0_hw7 k0_h1 => k0_hw7 k0_h1

def k0_off8 (v120 : BitVec 32) : Fin 2 → Nat :=
  let v121 : Index := Scalar.indexCast v120
  let c0_73 : Index := 0#32
  ![v121.toNat, 0]

def k0_chk8 (i : grid0.Coords) (v120 : BitVec 32) : Prop :=
  (∀ (k0_h1 : k0_cond1 i = 1#1), ∀ a, (k0_off8 v120) a + S1x192.size a ≤ S12x192.size a)
theorem k0_off8_inb : ∀ (i : grid0.Coords) (v120 : BitVec 32) (k0_hw8 : k0_chk8 i v120), ∀ (k0_h1 : k0_cond1 i = 1#1), ∀ a, (k0_off8 v120) a + S1x192.size a ≤ S12x192.size a := fun i v120 k0_hw8 k0_h1 => k0_hw8 k0_h1

def k0_off9 (v123 : BitVec 32) : Fin 2 → Nat :=
  let v124 : Index := Scalar.indexCast v123
  let c0_76 : Index := 0#32
  ![v124.toNat, 0]

def k0_chk9 (i : grid0.Coords) (v123 : BitVec 32) : Prop :=
  (∀ (k0_h1 : k0_cond1 i = 1#1), ∀ a, (k0_off9 v123) a + S1x192.size a ≤ S12x192.size a)
theorem k0_off9_inb : ∀ (i : grid0.Coords) (v123 : BitVec 32) (k0_hw9 : k0_chk9 i v123), ∀ (k0_h1 : k0_cond1 i = 1#1), ∀ a, (k0_off9 v123) a + S1x192.size a ≤ S12x192.size a := fun i v123 k0_hw9 k0_h1 => k0_hw9 k0_h1

def k0_off10 (v126 : BitVec 32) : Fin 2 → Nat :=
  let v127 : Index := Scalar.indexCast v126
  let c0_79 : Index := 0#32
  ![v127.toNat, 0]

def k0_chk10 (i : grid0.Coords) (v126 : BitVec 32) : Prop :=
  (∀ (k0_h1 : k0_cond1 i = 1#1), ∀ a, (k0_off10 v126) a + S1x192.size a ≤ S12x192.size a)
theorem k0_off10_inb : ∀ (i : grid0.Coords) (v126 : BitVec 32) (k0_hw10 : k0_chk10 i v126), ∀ (k0_h1 : k0_cond1 i = 1#1), ∀ a, (k0_off10 v126) a + S1x192.size a ≤ S12x192.size a := fun i v126 k0_hw10 k0_h1 => k0_hw10 k0_h1

def k0_off11 (v129 : BitVec 32) : Fin 2 → Nat :=
  let v130 : Index := Scalar.indexCast v129
  let c0_82 : Index := 0#32
  ![v130.toNat, 0]

def k0_chk11 (i : grid0.Coords) (v129 : BitVec 32) : Prop :=
  (∀ (k0_h1 : k0_cond1 i = 1#1), ∀ a, (k0_off11 v129) a + S1x192.size a ≤ S12x192.size a)
theorem k0_off11_inb : ∀ (i : grid0.Coords) (v129 : BitVec 32) (k0_hw11 : k0_chk11 i v129), ∀ (k0_h1 : k0_cond1 i = 1#1), ∀ a, (k0_off11 v129) a + S1x192.size a ≤ S12x192.size a := fun i v129 k0_hw11 k0_h1 => k0_hw11 k0_h1

def k0_off12 (v132 : BitVec 32) : Fin 2 → Nat :=
  let v133 : Index := Scalar.indexCast v132
  let c0_85 : Index := 0#32
  ![v133.toNat, 0]

def k0_chk12 (i : grid0.Coords) (v132 : BitVec 32) : Prop :=
  (∀ (k0_h1 : k0_cond1 i = 1#1), ∀ a, (k0_off12 v132) a + S1x192.size a ≤ S12x192.size a)
theorem k0_off12_inb : ∀ (i : grid0.Coords) (v132 : BitVec 32) (k0_hw12 : k0_chk12 i v132), ∀ (k0_h1 : k0_cond1 i = 1#1), ∀ a, (k0_off12 v132) a + S1x192.size a ≤ S12x192.size a := fun i v132 k0_hw12 k0_h1 => k0_hw12 k0_h1

def k0_off13 (v135 : BitVec 32) : Fin 2 → Nat :=
  let v136 : Index := Scalar.indexCast v135
  let c0_88 : Index := 0#32
  ![v136.toNat, 0]

def k0_chk13 (i : grid0.Coords) (v135 : BitVec 32) : Prop :=
  (∀ (k0_h1 : k0_cond1 i = 1#1), ∀ a, (k0_off13 v135) a + S1x192.size a ≤ S12x192.size a)
theorem k0_off13_inb : ∀ (i : grid0.Coords) (v135 : BitVec 32) (k0_hw13 : k0_chk13 i v135), ∀ (k0_h1 : k0_cond1 i = 1#1), ∀ a, (k0_off13 v135) a + S1x192.size a ≤ S12x192.size a := fun i v135 k0_hw13 k0_h1 => k0_hw13 k0_h1

def k0_off14 (v138 : BitVec 32) : Fin 2 → Nat :=
  let v139 : Index := Scalar.indexCast v138
  let c0_91 : Index := 0#32
  ![v139.toNat, 0]

def k0_chk14 (i : grid0.Coords) (v138 : BitVec 32) : Prop :=
  (∀ (k0_h1 : k0_cond1 i = 1#1), ∀ a, (k0_off14 v138) a + S1x192.size a ≤ S12x192.size a)
theorem k0_off14_inb : ∀ (i : grid0.Coords) (v138 : BitVec 32) (k0_hw14 : k0_chk14 i v138), ∀ (k0_h1 : k0_cond1 i = 1#1), ∀ a, (k0_off14 v138) a + S1x192.size a ≤ S12x192.size a := fun i v138 k0_hw14 k0_h1 => k0_hw14 k0_h1

def k0_off15 (v141 : BitVec 32) : Fin 2 → Nat :=
  let v142 : Index := Scalar.indexCast v141
  let c0_94 : Index := 0#32
  ![v142.toNat, 0]

def k0_chk15 (i : grid0.Coords) (v141 : BitVec 32) : Prop :=
  (∀ (k0_h1 : k0_cond1 i = 1#1), ∀ a, (k0_off15 v141) a + S1x192.size a ≤ S12x192.size a)
theorem k0_off15_inb : ∀ (i : grid0.Coords) (v141 : BitVec 32) (k0_hw15 : k0_chk15 i v141), ∀ (k0_h1 : k0_cond1 i = 1#1), ∀ a, (k0_off15 v141) a + S1x192.size a ≤ S12x192.size a := fun i v141 k0_hw15 k0_h1 => k0_hw15 k0_h1

def k0_off16 (v144 : BitVec 32) : Fin 2 → Nat :=
  let v145 : Index := Scalar.indexCast v144
  let c0_97 : Index := 0#32
  ![v145.toNat, 0]

def k0_chk16 (i : grid0.Coords) (v144 : BitVec 32) : Prop :=
  (∀ (k0_h1 : k0_cond1 i = 1#1), ∀ a, (k0_off16 v144) a + S1x192.size a ≤ S12x192.size a)
theorem k0_off16_inb : ∀ (i : grid0.Coords) (v144 : BitVec 32) (k0_hw16 : k0_chk16 i v144), ∀ (k0_h1 : k0_cond1 i = 1#1), ∀ a, (k0_off16 v144) a + S1x192.size a ≤ S12x192.size a := fun i v144 k0_hw16 k0_h1 => k0_hw16 k0_h1

def k0_off17 (v147 : BitVec 32) : Fin 2 → Nat :=
  let v148 : Index := Scalar.indexCast v147
  let c0_99 : Index := 0#32
  ![v148.toNat, 0]

def k0_chk17 (i : grid0.Coords) (v147 : BitVec 32) : Prop :=
  (∀ (k0_h1 : k0_cond1 i = 1#1), ∀ a, (k0_off17 v147) a + S1x192.size a ≤ S12x192.size a)
theorem k0_off17_inb : ∀ (i : grid0.Coords) (v147 : BitVec 32) (k0_hw17 : k0_chk17 i v147), ∀ (k0_h1 : k0_cond1 i = 1#1), ∀ a, (k0_off17 v147) a + S1x192.size a ≤ S12x192.size a := fun i v147 k0_hw17 k0_h1 => k0_hw17 k0_h1

def k0_off18 (v150 : BitVec 32) : Fin 2 → Nat :=
  let v151 : Index := Scalar.indexCast v150
  let c0_102 : Index := 0#32
  ![v151.toNat, 0]

def k0_chk18 (i : grid0.Coords) (v150 : BitVec 32) : Prop :=
  (∀ (k0_h1 : k0_cond1 i = 1#1), ∀ a, (k0_off18 v150) a + S1x192.size a ≤ S12x192.size a)
theorem k0_off18_inb : ∀ (i : grid0.Coords) (v150 : BitVec 32) (k0_hw18 : k0_chk18 i v150), ∀ (k0_h1 : k0_cond1 i = 1#1), ∀ a, (k0_off18 v150) a + S1x192.size a ≤ S12x192.size a := fun i v150 k0_hw18 k0_h1 => k0_hw18 k0_h1

def k0_off19 (v153 : BitVec 32) : Fin 2 → Nat :=
  let v154 : Index := Scalar.indexCast v153
  let c0_105 : Index := 0#32
  ![v154.toNat, 0]

def k0_chk19 (i : grid0.Coords) (v153 : BitVec 32) : Prop :=
  (∀ (k0_h1 : k0_cond1 i = 1#1), ∀ a, (k0_off19 v153) a + S1x192.size a ≤ S12x192.size a)
theorem k0_off19_inb : ∀ (i : grid0.Coords) (v153 : BitVec 32) (k0_hw19 : k0_chk19 i v153), ∀ (k0_h1 : k0_cond1 i = 1#1), ∀ a, (k0_off19 v153) a + S1x192.size a ≤ S12x192.size a := fun i v153 k0_hw19 k0_h1 => k0_hw19 k0_h1

def k0_off20 (v156 : BitVec 32) : Fin 2 → Nat :=
  let v157 : Index := Scalar.indexCast v156
  let c0_108 : Index := 0#32
  ![v157.toNat, 0]

def k0_chk20 (i : grid0.Coords) (v156 : BitVec 32) : Prop :=
  (∀ (k0_h1 : k0_cond1 i = 1#1), ∀ a, (k0_off20 v156) a + S1x192.size a ≤ S12x192.size a)
theorem k0_off20_inb : ∀ (i : grid0.Coords) (v156 : BitVec 32) (k0_hw20 : k0_chk20 i v156), ∀ (k0_h1 : k0_cond1 i = 1#1), ∀ a, (k0_off20 v156) a + S1x192.size a ≤ S12x192.size a := fun i v156 k0_hw20 k0_h1 => k0_hw20 k0_h1

def k0_off21 (v159 : BitVec 32) : Fin 2 → Nat :=
  let v160 : Index := Scalar.indexCast v159
  let c0_110 : Index := 0#32
  ![v160.toNat, 0]

def k0_chk21 (i : grid0.Coords) (v159 : BitVec 32) : Prop :=
  (∀ (k0_h1 : k0_cond1 i = 1#1), ∀ a, (k0_off21 v159) a + S1x192.size a ≤ S12x192.size a)
theorem k0_off21_inb : ∀ (i : grid0.Coords) (v159 : BitVec 32) (k0_hw21 : k0_chk21 i v159), ∀ (k0_h1 : k0_cond1 i = 1#1), ∀ a, (k0_off21 v159) a + S1x192.size a ≤ S12x192.size a := fun i v159 k0_hw21 k0_h1 => k0_hw21 k0_h1

def k0_off22 (v162 : BitVec 32) : Fin 2 → Nat :=
  let v163 : Index := Scalar.indexCast v162
  let c0_113 : Index := 0#32
  ![v163.toNat, 0]

def k0_chk22 (i : grid0.Coords) (v162 : BitVec 32) : Prop :=
  (∀ (k0_h1 : k0_cond1 i = 1#1), ∀ a, (k0_off22 v162) a + S1x192.size a ≤ S12x192.size a)
theorem k0_off22_inb : ∀ (i : grid0.Coords) (v162 : BitVec 32) (k0_hw22 : k0_chk22 i v162), ∀ (k0_h1 : k0_cond1 i = 1#1), ∀ a, (k0_off22 v162) a + S1x192.size a ≤ S12x192.size a := fun i v162 k0_hw22 k0_h1 => k0_hw22 k0_h1

def k0_off23 (v165 : BitVec 32) : Fin 2 → Nat :=
  let v166 : Index := Scalar.indexCast v165
  let c0_116 : Index := 0#32
  ![v166.toNat, 0]

def k0_chk23 (i : grid0.Coords) (v165 : BitVec 32) : Prop :=
  (∀ (k0_h1 : k0_cond1 i = 1#1), ∀ a, (k0_off23 v165) a + S1x192.size a ≤ S12x192.size a)
theorem k0_off23_inb : ∀ (i : grid0.Coords) (v165 : BitVec 32) (k0_hw23 : k0_chk23 i v165), ∀ (k0_h1 : k0_cond1 i = 1#1), ∀ a, (k0_off23 v165) a + S1x192.size a ≤ S12x192.size a := fun i v165 k0_hw23 k0_h1 => k0_hw23 k0_h1

def k0_off24 (v168 : BitVec 32) : Fin 2 → Nat :=
  let v169 : Index := Scalar.indexCast v168
  let c0_119 : Index := 0#32
  ![v169.toNat, 0]

def k0_chk24 (i : grid0.Coords) (v168 : BitVec 32) : Prop :=
  (∀ (k0_h1 : k0_cond1 i = 1#1), ∀ a, (k0_off24 v168) a + S1x192.size a ≤ S12x192.size a)
theorem k0_off24_inb : ∀ (i : grid0.Coords) (v168 : BitVec 32) (k0_hw24 : k0_chk24 i v168), ∀ (k0_h1 : k0_cond1 i = 1#1), ∀ a, (k0_off24 v168) a + S1x192.size a ≤ S12x192.size a := fun i v168 k0_hw24 k0_h1 => k0_hw24 k0_h1

def k0_off25 (v171 : BitVec 32) : Fin 2 → Nat :=
  let v172 : Index := Scalar.indexCast v171
  let c0_121 : Index := 0#32
  ![v172.toNat, 0]

def k0_chk25 (i : grid0.Coords) (v171 : BitVec 32) : Prop :=
  (∀ (k0_h1 : k0_cond1 i = 1#1), ∀ a, (k0_off25 v171) a + S1x192.size a ≤ S12x192.size a)
theorem k0_off25_inb : ∀ (i : grid0.Coords) (v171 : BitVec 32) (k0_hw25 : k0_chk25 i v171), ∀ (k0_h1 : k0_cond1 i = 1#1), ∀ a, (k0_off25 v171) a + S1x192.size a ≤ S12x192.size a := fun i v171 k0_hw25 k0_h1 => k0_hw25 k0_h1

def k0_off26 (v174 : BitVec 32) : Fin 2 → Nat :=
  let v175 : Index := Scalar.indexCast v174
  let c0_124 : Index := 0#32
  ![v175.toNat, 0]

def k0_chk26 (i : grid0.Coords) (v174 : BitVec 32) : Prop :=
  (∀ (k0_h1 : k0_cond1 i = 1#1), ∀ a, (k0_off26 v174) a + S1x192.size a ≤ S12x192.size a)
theorem k0_off26_inb : ∀ (i : grid0.Coords) (v174 : BitVec 32) (k0_hw26 : k0_chk26 i v174), ∀ (k0_h1 : k0_cond1 i = 1#1), ∀ a, (k0_off26 v174) a + S1x192.size a ≤ S12x192.size a := fun i v174 k0_hw26 k0_h1 => k0_hw26 k0_h1

def k0_off27 (v177 : BitVec 32) : Fin 2 → Nat :=
  let v178 : Index := Scalar.indexCast v177
  let c0_127 : Index := 0#32
  ![v178.toNat, 0]

def k0_chk27 (i : grid0.Coords) (v177 : BitVec 32) : Prop :=
  (∀ (k0_h1 : k0_cond1 i = 1#1), ∀ a, (k0_off27 v177) a + S1x192.size a ≤ S12x192.size a)
theorem k0_off27_inb : ∀ (i : grid0.Coords) (v177 : BitVec 32) (k0_hw27 : k0_chk27 i v177), ∀ (k0_h1 : k0_cond1 i = 1#1), ∀ a, (k0_off27 v177) a + S1x192.size a ≤ S12x192.size a := fun i v177 k0_hw27 k0_h1 => k0_hw27 k0_h1

def k0_off28 (v180 : BitVec 32) : Fin 2 → Nat :=
  let v181 : Index := Scalar.indexCast v180
  let c0_130 : Index := 0#32
  ![v181.toNat, 0]

def k0_chk28 (i : grid0.Coords) (v180 : BitVec 32) : Prop :=
  (∀ (k0_h1 : k0_cond1 i = 1#1), ∀ a, (k0_off28 v180) a + S1x192.size a ≤ S12x192.size a)
theorem k0_off28_inb : ∀ (i : grid0.Coords) (v180 : BitVec 32) (k0_hw28 : k0_chk28 i v180), ∀ (k0_h1 : k0_cond1 i = 1#1), ∀ a, (k0_off28 v180) a + S1x192.size a ≤ S12x192.size a := fun i v180 k0_hw28 k0_h1 => k0_hw28 k0_h1

def k0_off29 (v183 : BitVec 32) : Fin 2 → Nat :=
  let v184 : Index := Scalar.indexCast v183
  let c0_132 : Index := 0#32
  ![v184.toNat, 0]

def k0_chk29 (i : grid0.Coords) (v183 : BitVec 32) : Prop :=
  (∀ (k0_h1 : k0_cond1 i = 1#1), ∀ a, (k0_off29 v183) a + S1x192.size a ≤ S12x192.size a)
theorem k0_off29_inb : ∀ (i : grid0.Coords) (v183 : BitVec 32) (k0_hw29 : k0_chk29 i v183), ∀ (k0_h1 : k0_cond1 i = 1#1), ∀ a, (k0_off29 v183) a + S1x192.size a ≤ S12x192.size a := fun i v183 k0_hw29 k0_h1 => k0_hw29 k0_h1

def k0_off30 (v186 : BitVec 32) : Fin 2 → Nat :=
  let v187 : Index := Scalar.indexCast v186
  let c0_135 : Index := 0#32
  ![v187.toNat, 0]

def k0_chk30 (i : grid0.Coords) (v186 : BitVec 32) : Prop :=
  (∀ (k0_h1 : k0_cond1 i = 1#1), ∀ a, (k0_off30 v186) a + S1x192.size a ≤ S12x192.size a)
theorem k0_off30_inb : ∀ (i : grid0.Coords) (v186 : BitVec 32) (k0_hw30 : k0_chk30 i v186), ∀ (k0_h1 : k0_cond1 i = 1#1), ∀ a, (k0_off30 v186) a + S1x192.size a ≤ S12x192.size a := fun i v186 k0_hw30 k0_h1 => k0_hw30 k0_h1

def k0_off31 (v189 : BitVec 32) : Fin 2 → Nat :=
  let v190 : Index := Scalar.indexCast v189
  let c0_138 : Index := 0#32
  ![v190.toNat, 0]

def k0_chk31 (i : grid0.Coords) (v189 : BitVec 32) : Prop :=
  (∀ (k0_h1 : k0_cond1 i = 1#1), ∀ a, (k0_off31 v189) a + S1x192.size a ≤ S12x192.size a)
theorem k0_off31_inb : ∀ (i : grid0.Coords) (v189 : BitVec 32) (k0_hw31 : k0_chk31 i v189), ∀ (k0_h1 : k0_cond1 i = 1#1), ∀ a, (k0_off31 v189) a + S1x192.size a ≤ S12x192.size a := fun i v189 k0_hw31 k0_h1 => k0_hw31 k0_h1

def k0_off32 (v192 : BitVec 32) : Fin 2 → Nat :=
  let v193 : Index := Scalar.indexCast v192
  let c0_141 : Index := 0#32
  ![v193.toNat, 0]

def k0_chk32 (i : grid0.Coords) (v192 : BitVec 32) : Prop :=
  (∀ (k0_h1 : k0_cond1 i = 1#1), ∀ a, (k0_off32 v192) a + S1x192.size a ≤ S12x192.size a)
theorem k0_off32_inb : ∀ (i : grid0.Coords) (v192 : BitVec 32) (k0_hw32 : k0_chk32 i v192), ∀ (k0_h1 : k0_cond1 i = 1#1), ∀ a, (k0_off32 v192) a + S1x192.size a ≤ S12x192.size a := fun i v192 k0_hw32 k0_h1 => k0_hw32 k0_h1

def k0_off33 (v195 : BitVec 32) : Fin 2 → Nat :=
  let v196 : Index := Scalar.indexCast v195
  let c0_143 : Index := 0#32
  ![v196.toNat, 0]

def k0_chk33 (i : grid0.Coords) (v195 : BitVec 32) : Prop :=
  (∀ (k0_h1 : k0_cond1 i = 1#1), ∀ a, (k0_off33 v195) a + S1x192.size a ≤ S12x192.size a)
theorem k0_off33_inb : ∀ (i : grid0.Coords) (v195 : BitVec 32) (k0_hw33 : k0_chk33 i v195), ∀ (k0_h1 : k0_cond1 i = 1#1), ∀ a, (k0_off33 v195) a + S1x192.size a ≤ S12x192.size a := fun i v195 k0_hw33 k0_h1 => k0_hw33 k0_h1

def k0_off34 (v198 : BitVec 32) : Fin 2 → Nat :=
  let v199 : Index := Scalar.indexCast v198
  let c0_146 : Index := 0#32
  ![v199.toNat, 0]

def k0_chk34 (i : grid0.Coords) (v198 : BitVec 32) : Prop :=
  (∀ (k0_h1 : k0_cond1 i = 1#1), ∀ a, (k0_off34 v198) a + S1x192.size a ≤ S12x192.size a)
theorem k0_off34_inb : ∀ (i : grid0.Coords) (v198 : BitVec 32) (k0_hw34 : k0_chk34 i v198), ∀ (k0_h1 : k0_cond1 i = 1#1), ∀ a, (k0_off34 v198) a + S1x192.size a ≤ S12x192.size a := fun i v198 k0_hw34 k0_h1 => k0_hw34 k0_h1

def k0_off35 (v201 : BitVec 32) : Fin 2 → Nat :=
  let v202 : Index := Scalar.indexCast v201
  let c0_149 : Index := 0#32
  ![v202.toNat, 0]

def k0_chk35 (i : grid0.Coords) (v201 : BitVec 32) : Prop :=
  (∀ (k0_h1 : k0_cond1 i = 1#1), ∀ a, (k0_off35 v201) a + S1x192.size a ≤ S12x192.size a)
theorem k0_off35_inb : ∀ (i : grid0.Coords) (v201 : BitVec 32) (k0_hw35 : k0_chk35 i v201), ∀ (k0_h1 : k0_cond1 i = 1#1), ∀ a, (k0_off35 v201) a + S1x192.size a ≤ S12x192.size a := fun i v201 k0_hw35 k0_h1 => k0_hw35 k0_h1

def k0_off36 (v204 : BitVec 32) : Fin 2 → Nat :=
  let v205 : Index := Scalar.indexCast v204
  let c0_152 : Index := 0#32
  ![v205.toNat, 0]

def k0_chk36 (i : grid0.Coords) (v204 : BitVec 32) : Prop :=
  (∀ (k0_h1 : k0_cond1 i = 1#1), ∀ a, (k0_off36 v204) a + S1x192.size a ≤ S12x192.size a)
theorem k0_off36_inb : ∀ (i : grid0.Coords) (v204 : BitVec 32) (k0_hw36 : k0_chk36 i v204), ∀ (k0_h1 : k0_cond1 i = 1#1), ∀ a, (k0_off36 v204) a + S1x192.size a ≤ S12x192.size a := fun i v204 k0_hw36 k0_h1 => k0_hw36 k0_h1

def k0_off37 (v207 : BitVec 32) : Fin 2 → Nat :=
  let v208 : Index := Scalar.indexCast v207
  let c0_154 : Index := 0#32
  ![v208.toNat, 0]

def k0_chk37 (i : grid0.Coords) (v207 : BitVec 32) : Prop :=
  (∀ (k0_h1 : k0_cond1 i = 1#1), ∀ a, (k0_off37 v207) a + S1x192.size a ≤ S12x192.size a)
theorem k0_off37_inb : ∀ (i : grid0.Coords) (v207 : BitVec 32) (k0_hw37 : k0_chk37 i v207), ∀ (k0_h1 : k0_cond1 i = 1#1), ∀ a, (k0_off37 v207) a + S1x192.size a ≤ S12x192.size a := fun i v207 k0_hw37 k0_h1 => k0_hw37 k0_h1

def k0_off38 (v210 : BitVec 32) : Fin 2 → Nat :=
  let v211 : Index := Scalar.indexCast v210
  let c0_157 : Index := 0#32
  ![v211.toNat, 0]

def k0_chk38 (i : grid0.Coords) (v210 : BitVec 32) : Prop :=
  (∀ (k0_h1 : k0_cond1 i = 1#1), ∀ a, (k0_off38 v210) a + S1x192.size a ≤ S12x192.size a)
theorem k0_off38_inb : ∀ (i : grid0.Coords) (v210 : BitVec 32) (k0_hw38 : k0_chk38 i v210), ∀ (k0_h1 : k0_cond1 i = 1#1), ∀ a, (k0_off38 v210) a + S1x192.size a ≤ S12x192.size a := fun i v210 k0_hw38 k0_h1 => k0_hw38 k0_h1

def k0_off39 (v213 : BitVec 32) : Fin 2 → Nat :=
  let v214 : Index := Scalar.indexCast v213
  let c0_160 : Index := 0#32
  ![v214.toNat, 0]

def k0_chk39 (i : grid0.Coords) (v213 : BitVec 32) : Prop :=
  (∀ (k0_h1 : k0_cond1 i = 1#1), ∀ a, (k0_off39 v213) a + S1x192.size a ≤ S12x192.size a)
theorem k0_off39_inb : ∀ (i : grid0.Coords) (v213 : BitVec 32) (k0_hw39 : k0_chk39 i v213), ∀ (k0_h1 : k0_cond1 i = 1#1), ∀ a, (k0_off39 v213) a + S1x192.size a ≤ S12x192.size a := fun i v213 k0_hw39 k0_h1 => k0_hw39 k0_h1

def k0_off40 (v216 : BitVec 32) : Fin 2 → Nat :=
  let v217 : Index := Scalar.indexCast v216
  let c0_163 : Index := 0#32
  ![v217.toNat, 0]

def k0_chk40 (i : grid0.Coords) (v216 : BitVec 32) : Prop :=
  (∀ (k0_h1 : k0_cond1 i = 1#1), ∀ a, (k0_off40 v216) a + S1x192.size a ≤ S12x192.size a)
theorem k0_off40_inb : ∀ (i : grid0.Coords) (v216 : BitVec 32) (k0_hw40 : k0_chk40 i v216), ∀ (k0_h1 : k0_cond1 i = 1#1), ∀ a, (k0_off40 v216) a + S1x192.size a ≤ S12x192.size a := fun i v216 k0_hw40 k0_h1 => k0_hw40 k0_h1

def k0_off41 (v219 : BitVec 32) : Fin 2 → Nat :=
  let v220 : Index := Scalar.indexCast v219
  let c0_165 : Index := 0#32
  ![v220.toNat, 0]

def k0_chk41 (i : grid0.Coords) (v219 : BitVec 32) : Prop :=
  (∀ (k0_h1 : k0_cond1 i = 1#1), ∀ a, (k0_off41 v219) a + S1x192.size a ≤ S12x192.size a)
theorem k0_off41_inb : ∀ (i : grid0.Coords) (v219 : BitVec 32) (k0_hw41 : k0_chk41 i v219), ∀ (k0_h1 : k0_cond1 i = 1#1), ∀ a, (k0_off41 v219) a + S1x192.size a ≤ S12x192.size a := fun i v219 k0_hw41 k0_h1 => k0_hw41 k0_h1

def k0_off42 (v222 : BitVec 32) : Fin 2 → Nat :=
  let v223 : Index := Scalar.indexCast v222
  let c0_168 : Index := 0#32
  ![v223.toNat, 0]

def k0_chk42 (i : grid0.Coords) (v222 : BitVec 32) : Prop :=
  (∀ (k0_h1 : k0_cond1 i = 1#1), ∀ a, (k0_off42 v222) a + S1x192.size a ≤ S12x192.size a)
theorem k0_off42_inb : ∀ (i : grid0.Coords) (v222 : BitVec 32) (k0_hw42 : k0_chk42 i v222), ∀ (k0_h1 : k0_cond1 i = 1#1), ∀ a, (k0_off42 v222) a + S1x192.size a ≤ S12x192.size a := fun i v222 k0_hw42 k0_h1 => k0_hw42 k0_h1

def k0_off43 (v225 : BitVec 32) : Fin 2 → Nat :=
  let v226 : Index := Scalar.indexCast v225
  let c0_171 : Index := 0#32
  ![v226.toNat, 0]

def k0_chk43 (i : grid0.Coords) (v225 : BitVec 32) : Prop :=
  (∀ (k0_h1 : k0_cond1 i = 1#1), ∀ a, (k0_off43 v225) a + S1x192.size a ≤ S12x192.size a)
theorem k0_off43_inb : ∀ (i : grid0.Coords) (v225 : BitVec 32) (k0_hw43 : k0_chk43 i v225), ∀ (k0_h1 : k0_cond1 i = 1#1), ∀ a, (k0_off43 v225) a + S1x192.size a ≤ S12x192.size a := fun i v225 k0_hw43 k0_h1 => k0_hw43 k0_h1

def k0_off44 (v228 : BitVec 32) : Fin 2 → Nat :=
  let v229 : Index := Scalar.indexCast v228
  let c0_174 : Index := 0#32
  ![v229.toNat, 0]

def k0_chk44 (i : grid0.Coords) (v228 : BitVec 32) : Prop :=
  (∀ (k0_h1 : k0_cond1 i = 1#1), ∀ a, (k0_off44 v228) a + S1x192.size a ≤ S12x192.size a)
theorem k0_off44_inb : ∀ (i : grid0.Coords) (v228 : BitVec 32) (k0_hw44 : k0_chk44 i v228), ∀ (k0_h1 : k0_cond1 i = 1#1), ∀ a, (k0_off44 v228) a + S1x192.size a ≤ S12x192.size a := fun i v228 k0_hw44 k0_h1 => k0_hw44 k0_h1

def k0_off45 (v231 : BitVec 32) : Fin 2 → Nat :=
  let v232 : Index := Scalar.indexCast v231
  let c0_176 : Index := 0#32
  ![v232.toNat, 0]

def k0_chk45 (i : grid0.Coords) (v231 : BitVec 32) : Prop :=
  (∀ (k0_h1 : k0_cond1 i = 1#1), ∀ a, (k0_off45 v231) a + S1x192.size a ≤ S12x192.size a)
theorem k0_off45_inb : ∀ (i : grid0.Coords) (v231 : BitVec 32) (k0_hw45 : k0_chk45 i v231), ∀ (k0_h1 : k0_cond1 i = 1#1), ∀ a, (k0_off45 v231) a + S1x192.size a ≤ S12x192.size a := fun i v231 k0_hw45 k0_h1 => k0_hw45 k0_h1

def k0_off46 (v234 : BitVec 32) : Fin 2 → Nat :=
  let v235 : Index := Scalar.indexCast v234
  let c0_179 : Index := 0#32
  ![v235.toNat, 0]

def k0_chk46 (i : grid0.Coords) (v234 : BitVec 32) : Prop :=
  (∀ (k0_h1 : k0_cond1 i = 1#1), ∀ a, (k0_off46 v234) a + S1x192.size a ≤ S12x192.size a)
theorem k0_off46_inb : ∀ (i : grid0.Coords) (v234 : BitVec 32) (k0_hw46 : k0_chk46 i v234), ∀ (k0_h1 : k0_cond1 i = 1#1), ∀ a, (k0_off46 v234) a + S1x192.size a ≤ S12x192.size a := fun i v234 k0_hw46 k0_h1 => k0_hw46 k0_h1

def k0_off47 (v237 : BitVec 32) : Fin 2 → Nat :=
  let v238 : Index := Scalar.indexCast v237
  let c0_182 : Index := 0#32
  ![v238.toNat, 0]

def k0_chk47 (i : grid0.Coords) (v237 : BitVec 32) : Prop :=
  (∀ (k0_h1 : k0_cond1 i = 1#1), ∀ a, (k0_off47 v237) a + S1x192.size a ≤ S12x192.size a)
theorem k0_off47_inb : ∀ (i : grid0.Coords) (v237 : BitVec 32) (k0_hw47 : k0_chk47 i v237), ∀ (k0_h1 : k0_cond1 i = 1#1), ∀ a, (k0_off47 v237) a + S1x192.size a ≤ S12x192.size a := fun i v237 k0_hw47 k0_h1 => k0_hw47 k0_h1

def k0_off48 (v240 : BitVec 32) : Fin 2 → Nat :=
  let v241 : Index := Scalar.indexCast v240
  let c0_185 : Index := 0#32
  ![v241.toNat, 0]

def k0_chk48 (i : grid0.Coords) (v240 : BitVec 32) : Prop :=
  (∀ (k0_h1 : k0_cond1 i = 1#1), ∀ a, (k0_off48 v240) a + S1x192.size a ≤ S12x192.size a)
theorem k0_off48_inb : ∀ (i : grid0.Coords) (v240 : BitVec 32) (k0_hw48 : k0_chk48 i v240), ∀ (k0_h1 : k0_cond1 i = 1#1), ∀ a, (k0_off48 v240) a + S1x192.size a ≤ S12x192.size a := fun i v240 k0_hw48 k0_h1 => k0_hw48 k0_h1

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off49 (i : grid0.Coords) : Fin 2 → Nat :=
  let arg0 : BitVec 32 := BitVec.ofNat 32 (i 0).val
  let v39 : Index := Scalar.indexCast arg0
  let c0_34 : Index := 0#32
  ![v39.toNat, 0]
def k0_off50 (v40 : BitVec 32) : Fin 2 → Nat :=
  let v41 : Index := Scalar.indexCast v40
  let c0_35 : Index := 0#32
  ![v41.toNat, 0]

def k0_chk49 (i : grid0.Coords) (v40 : BitVec 32) : Prop :=
  (∀ (k0_h2 : k0_cond2 i = 1#1), ∀ a, (k0_off50 v40) a + S1x192.size a ≤ S12x192.size a)
theorem k0_off50_inb : ∀ (i : grid0.Coords) (v40 : BitVec 32) (k0_hw49 : k0_chk49 i v40), ∀ (k0_h2 : k0_cond2 i = 1#1), ∀ a, (k0_off50 v40) a + S1x192.size a ≤ S12x192.size a := fun i v40 k0_hw49 k0_h2 => k0_hw49 k0_h2

def k0_off51 (i : grid0.Coords) : Fin 2 → Nat :=
  let arg0 : BitVec 32 := BitVec.ofNat 32 (i 0).val
  let v43 : Index := Scalar.indexCast arg0
  let c1 : Index := 1#32
  ![v43.toNat, 1]
def k0_off52 (v44 : BitVec 32) : Fin 2 → Nat :=
  let v45 : Index := Scalar.indexCast v44
  let c0_36 : Index := 0#32
  ![v45.toNat, 0]

def k0_chk50 (i : grid0.Coords) (v44 : BitVec 32) : Prop :=
  (∀ (k0_h2 : k0_cond2 i = 1#1), ∀ a, (k0_off52 v44) a + S1x192.size a ≤ S12x192.size a)
theorem k0_off52_inb : ∀ (i : grid0.Coords) (v44 : BitVec 32) (k0_hw50 : k0_chk50 i v44), ∀ (k0_h2 : k0_cond2 i = 1#1), ∀ a, (k0_off52 v44) a + S1x192.size a ≤ S12x192.size a := fun i v44 k0_hw50 k0_h2 => k0_hw50 k0_h2

def k0_off53 (i : grid0.Coords) : Fin 2 → Nat :=
  let arg0 : BitVec 32 := BitVec.ofNat 32 (i 0).val
  let v47 : Index := Scalar.indexCast arg0
  let c2 : Index := 2#32
  ![v47.toNat, 2]
def k0_off54 (v48 : BitVec 32) : Fin 2 → Nat :=
  let v49 : Index := Scalar.indexCast v48
  let c0_37 : Index := 0#32
  ![v49.toNat, 0]

def k0_chk51 (i : grid0.Coords) (v48 : BitVec 32) : Prop :=
  (∀ (k0_h2 : k0_cond2 i = 1#1), ∀ a, (k0_off54 v48) a + S1x192.size a ≤ S12x192.size a)
theorem k0_off54_inb : ∀ (i : grid0.Coords) (v48 : BitVec 32) (k0_hw51 : k0_chk51 i v48), ∀ (k0_h2 : k0_cond2 i = 1#1), ∀ a, (k0_off54 v48) a + S1x192.size a ≤ S12x192.size a := fun i v48 k0_hw51 k0_h2 => k0_hw51 k0_h2

def k0_off55 (i : grid0.Coords) : Fin 2 → Nat :=
  let arg0 : BitVec 32 := BitVec.ofNat 32 (i 0).val
  let v51 : Index := Scalar.indexCast arg0
  let c3 : Index := 3#32
  ![v51.toNat, 3]
def k0_off56 (v52 : BitVec 32) : Fin 2 → Nat :=
  let v53 : Index := Scalar.indexCast v52
  let c0_38 : Index := 0#32
  ![v53.toNat, 0]

def k0_chk52 (i : grid0.Coords) (v52 : BitVec 32) : Prop :=
  (∀ (k0_h2 : k0_cond2 i = 1#1), ∀ a, (k0_off56 v52) a + S1x192.size a ≤ S12x192.size a)
theorem k0_off56_inb : ∀ (i : grid0.Coords) (v52 : BitVec 32) (k0_hw52 : k0_chk52 i v52), ∀ (k0_h2 : k0_cond2 i = 1#1), ∀ a, (k0_off56 v52) a + S1x192.size a ≤ S12x192.size a := fun i v52 k0_hw52 k0_h2 => k0_hw52 k0_h2

def k0_off57 (i : grid0.Coords) : Fin 2 → Nat :=
  let arg0 : BitVec 32 := BitVec.ofNat 32 (i 0).val
  let v55 : Index := Scalar.indexCast arg0
  let c4 : Index := 4#32
  ![v55.toNat, 4]
def k0_off58 (v56 : BitVec 32) : Fin 2 → Nat :=
  let v57 : Index := Scalar.indexCast v56
  let c0_39 : Index := 0#32
  ![v57.toNat, 0]

def k0_chk53 (i : grid0.Coords) (v56 : BitVec 32) : Prop :=
  (∀ (k0_h2 : k0_cond2 i = 1#1), ∀ a, (k0_off58 v56) a + S1x192.size a ≤ S12x192.size a)
theorem k0_off58_inb : ∀ (i : grid0.Coords) (v56 : BitVec 32) (k0_hw53 : k0_chk53 i v56), ∀ (k0_h2 : k0_cond2 i = 1#1), ∀ a, (k0_off58 v56) a + S1x192.size a ≤ S12x192.size a := fun i v56 k0_hw53 k0_h2 => k0_hw53 k0_h2

def k0_off59 (i : grid0.Coords) : Fin 2 → Nat :=
  let arg0 : BitVec 32 := BitVec.ofNat 32 (i 0).val
  let v59 : Index := Scalar.indexCast arg0
  let c5 : Index := 5#32
  ![v59.toNat, 5]
def k0_off60 (v60 : BitVec 32) : Fin 2 → Nat :=
  let v61 : Index := Scalar.indexCast v60
  let c0_40 : Index := 0#32
  ![v61.toNat, 0]

def k0_chk54 (i : grid0.Coords) (v60 : BitVec 32) : Prop :=
  (∀ (k0_h2 : k0_cond2 i = 1#1), ∀ a, (k0_off60 v60) a + S1x192.size a ≤ S12x192.size a)
theorem k0_off60_inb : ∀ (i : grid0.Coords) (v60 : BitVec 32) (k0_hw54 : k0_chk54 i v60), ∀ (k0_h2 : k0_cond2 i = 1#1), ∀ a, (k0_off60 v60) a + S1x192.size a ≤ S12x192.size a := fun i v60 k0_hw54 k0_h2 => k0_hw54 k0_h2

def k0_off61 (i : grid0.Coords) : Fin 2 → Nat :=
  let arg0 : BitVec 32 := BitVec.ofNat 32 (i 0).val
  let v63 : Index := Scalar.indexCast arg0
  let c6 : Index := 6#32
  ![v63.toNat, 6]
def k0_off62 (v64 : BitVec 32) : Fin 2 → Nat :=
  let v65 : Index := Scalar.indexCast v64
  let c0_41 : Index := 0#32
  ![v65.toNat, 0]

def k0_chk55 (i : grid0.Coords) (v64 : BitVec 32) : Prop :=
  (∀ (k0_h2 : k0_cond2 i = 1#1), ∀ a, (k0_off62 v64) a + S1x192.size a ≤ S12x192.size a)
theorem k0_off62_inb : ∀ (i : grid0.Coords) (v64 : BitVec 32) (k0_hw55 : k0_chk55 i v64), ∀ (k0_h2 : k0_cond2 i = 1#1), ∀ a, (k0_off62 v64) a + S1x192.size a ≤ S12x192.size a := fun i v64 k0_hw55 k0_h2 => k0_hw55 k0_h2

def k0_off63 (i : grid0.Coords) : Fin 2 → Nat :=
  let arg0 : BitVec 32 := BitVec.ofNat 32 (i 0).val
  let v67 : Index := Scalar.indexCast arg0
  let c7 : Index := 7#32
  ![v67.toNat, 7]
def k0_off64 (v68 : BitVec 32) : Fin 2 → Nat :=
  let v69 : Index := Scalar.indexCast v68
  let c0_42 : Index := 0#32
  ![v69.toNat, 0]

def k0_chk56 (i : grid0.Coords) (v68 : BitVec 32) : Prop :=
  (∀ (k0_h2 : k0_cond2 i = 1#1), ∀ a, (k0_off64 v68) a + S1x192.size a ≤ S12x192.size a)
theorem k0_off64_inb : ∀ (i : grid0.Coords) (v68 : BitVec 32) (k0_hw56 : k0_chk56 i v68), ∀ (k0_h2 : k0_cond2 i = 1#1), ∀ a, (k0_off64 v68) a + S1x192.size a ≤ S12x192.size a := fun i v68 k0_hw56 k0_h2 => k0_hw56 k0_h2

def k0_off65 (i : grid0.Coords) : Fin 2 → Nat :=
  let arg0 : BitVec 32 := BitVec.ofNat 32 (i 0).val
  let v71 : Index := Scalar.indexCast arg0
  let c8 : Index := 8#32
  ![v71.toNat, 8]
def k0_off66 (v72 : BitVec 32) : Fin 2 → Nat :=
  let v73 : Index := Scalar.indexCast v72
  let c0_43 : Index := 0#32
  ![v73.toNat, 0]

def k0_chk57 (i : grid0.Coords) (v72 : BitVec 32) : Prop :=
  (∀ (k0_h2 : k0_cond2 i = 1#1), ∀ a, (k0_off66 v72) a + S1x192.size a ≤ S12x192.size a)
theorem k0_off66_inb : ∀ (i : grid0.Coords) (v72 : BitVec 32) (k0_hw57 : k0_chk57 i v72), ∀ (k0_h2 : k0_cond2 i = 1#1), ∀ a, (k0_off66 v72) a + S1x192.size a ≤ S12x192.size a := fun i v72 k0_hw57 k0_h2 => k0_hw57 k0_h2

def k0_off67 (i : grid0.Coords) : Fin 2 → Nat :=
  let arg0 : BitVec 32 := BitVec.ofNat 32 (i 0).val
  let v75 : Index := Scalar.indexCast arg0
  let c9 : Index := 9#32
  ![v75.toNat, 9]
def k0_off68 (v76 : BitVec 32) : Fin 2 → Nat :=
  let v77 : Index := Scalar.indexCast v76
  let c0_44 : Index := 0#32
  ![v77.toNat, 0]

def k0_chk58 (i : grid0.Coords) (v76 : BitVec 32) : Prop :=
  (∀ (k0_h2 : k0_cond2 i = 1#1), ∀ a, (k0_off68 v76) a + S1x192.size a ≤ S12x192.size a)
theorem k0_off68_inb : ∀ (i : grid0.Coords) (v76 : BitVec 32) (k0_hw58 : k0_chk58 i v76), ∀ (k0_h2 : k0_cond2 i = 1#1), ∀ a, (k0_off68 v76) a + S1x192.size a ≤ S12x192.size a := fun i v76 k0_hw58 k0_h2 => k0_hw58 k0_h2

def k0_off69 (i : grid0.Coords) : Fin 2 → Nat :=
  let arg0 : BitVec 32 := BitVec.ofNat 32 (i 0).val
  let v79 : Index := Scalar.indexCast arg0
  let c10 : Index := 10#32
  ![v79.toNat, 10]
def k0_off70 (v80 : BitVec 32) : Fin 2 → Nat :=
  let v81 : Index := Scalar.indexCast v80
  let c0_45 : Index := 0#32
  ![v81.toNat, 0]

def k0_chk59 (i : grid0.Coords) (v80 : BitVec 32) : Prop :=
  (∀ (k0_h2 : k0_cond2 i = 1#1), ∀ a, (k0_off70 v80) a + S1x192.size a ≤ S12x192.size a)
theorem k0_off70_inb : ∀ (i : grid0.Coords) (v80 : BitVec 32) (k0_hw59 : k0_chk59 i v80), ∀ (k0_h2 : k0_cond2 i = 1#1), ∀ a, (k0_off70 v80) a + S1x192.size a ≤ S12x192.size a := fun i v80 k0_hw59 k0_h2 => k0_hw59 k0_h2

def k0_off71 (i : grid0.Coords) : Fin 2 → Nat :=
  let arg0 : BitVec 32 := BitVec.ofNat 32 (i 0).val
  let v83 : Index := Scalar.indexCast arg0
  let c11 : Index := 11#32
  ![v83.toNat, 11]
def k0_off72 (v84 : BitVec 32) : Fin 2 → Nat :=
  let v85 : Index := Scalar.indexCast v84
  let c0_46 : Index := 0#32
  ![v85.toNat, 0]

def k0_chk60 (i : grid0.Coords) (v84 : BitVec 32) : Prop :=
  (∀ (k0_h2 : k0_cond2 i = 1#1), ∀ a, (k0_off72 v84) a + S1x192.size a ≤ S12x192.size a)
theorem k0_off72_inb : ∀ (i : grid0.Coords) (v84 : BitVec 32) (k0_hw60 : k0_chk60 i v84), ∀ (k0_h2 : k0_cond2 i = 1#1), ∀ a, (k0_off72 v84) a + S1x192.size a ≤ S12x192.size a := fun i v84 k0_hw60 k0_h2 => k0_hw60 k0_h2

def k0_off73 (i : grid0.Coords) : Fin 3 → Nat :=
  let c4_i32 : BitVec 32 := 4#32
  let arg1 : BitVec 32 := BitVec.ofNat 32 (i 1).val
  let v8 : BitVec 32 := Scalar.muli c4_i32 arg1
  let v9 : Index := Scalar.indexCast v8
  let c0 : Index := 0#32
  let c0_4 : Index := 0#32
  ![v9.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S4x12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S12x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S7x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x12x7x8x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x3x8x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S12x3x4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x4x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x12x7x8x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x3x8x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S12x3x4x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x4x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== KernelIdeal.lean ====
variable {F : FTy → Type} [FloatOps F] [Named F]
def κ : String → Option EReal := fun
  | "half_pi" => some (((1 / 2) * Real.pi : ℝ) : EReal)
  | "neg_ln1e4_48" => some ((-((Real.log 10000) * (1 / 48)) : ℝ) : EReal)
  | _ => none
-- ==== ReferenceIdeal.lean ====
abbrev S4x8x8x12x7x768 : Shape := ⟨6, ![4, 8, 8, 12, 7, 768]⟩
abbrev S4x8x8x3x768 : Shape := ⟨5, ![4, 8, 8, 3, 768]⟩
abbrev S4x12x3x768 : Shape := ⟨4, ![4, 12, 3, 768]⟩
abbrev S4x3x768 : Shape := ⟨3, ![4, 3, 768]⟩
abbrev S4x12 : Shape := ⟨2, ![4, 12]⟩
abbrev S_ : Shape := ⟨0, ![]⟩
abbrev S24x192 : Shape := ⟨2, ![24, 192]⟩
abbrev S12x192 : Shape := ⟨2, ![12, 192]⟩
abbrev S7x192 : Shape := ⟨2, ![7, 192]⟩
abbrev S3x192 : Shape := ⟨2, ![3, 192]⟩
abbrev S1x1x1x1x7x192 : Shape := ⟨6, ![1, 1, 1, 1, 7, 192]⟩
abbrev S4x8x8x12x7x192 : Shape := ⟨6, ![4, 8, 8, 12, 7, 192]⟩
abbrev S1x1x3x192 : Shape := ⟨4, ![1, 1, 3, 192]⟩
abbrev S4x12x3x192 : Shape := ⟨4, ![4, 12, 3, 192]⟩
abbrev S1x3x192 : Shape := ⟨3, ![1, 3, 192]⟩
abbrev S4x3x192 : Shape := ⟨3, ![4, 3, 192]⟩
abbrev S1x1x1x3x192 : Shape := ⟨5, ![1, 1, 1, 3, 192]⟩
abbrev S4x8x8x3x192 : Shape := ⟨5, ![4, 8, 8, 3, 192]⟩
abbrev S1x1x1x12x1x192 : Shape := ⟨6, ![1, 1, 1, 12, 1, 192]⟩
abbrev S4x12x1 : Shape := ⟨3, ![4, 12, 1]⟩
abbrev S1 : Shape := ⟨1, ![1]⟩
abbrev S1x1x1 : Shape := ⟨3, ![1, 1, 1]⟩
abbrev S4x12x192 : Shape := ⟨3, ![4, 12, 192]⟩
abbrev S4x1x1x12x1x192 : Shape := ⟨6, ![4, 1, 1, 12, 1, 192]⟩
abbrev S1x12x1x192 : Shape := ⟨4, ![1, 12, 1, 192]⟩
abbrev S4x12x1x192 : Shape := ⟨4, ![4, 12, 1, 192]⟩
abbrev S4x8x8x3x384 : Shape := ⟨5, ![4, 8, 8, 3, 384]⟩
abbrev S4x3x576 : Shape := ⟨3, ![4, 3, 576]⟩
abbrev S4 : Shape := ⟨1, ![4]⟩
abbrev S8 : Shape := ⟨1, ![8]⟩
abbrev S8x8 : Shape := ⟨2, ![8, 8]⟩
abbrev S1x8x8 : Shape := ⟨3, ![1, 8, 8]⟩
abbrev S2x8x8 : Shape := ⟨3, ![2, 8, 8]⟩
abbrev S2x1x8x8 : Shape := ⟨4, ![2, 1, 8, 8]⟩
abbrev S1x4x1x1 : Shape := ⟨4, ![1, 4, 1, 1]⟩
abbrev S2x4x8x8 : Shape := ⟨4, ![2, 4, 8, 8]⟩
abbrev S1x4x8x8 : Shape := ⟨4, ![1, 4, 8, 8]⟩
abbrev S4x8x8 : Shape := ⟨3, ![4, 8, 8]⟩
abbrev S48 : Shape := ⟨1, ![48]⟩
abbrev S256 : Shape := ⟨1, ![256]⟩
abbrev S256x1 : Shape := ⟨2, ![256, 1]⟩
abbrev S1x48 : Shape := ⟨2, ![1, 48]⟩
abbrev S256x48 : Shape := ⟨2, ![256, 48]⟩
abbrev S256x96 : Shape := ⟨2, ![256, 96]⟩
abbrev S256x192 : Shape := ⟨2, ![256, 192]⟩
abbrev S4x64x192 : Shape := ⟨3, ![4, 64, 192]⟩
abbrev S4x8x8x192 : Shape := ⟨4, ![4, 8, 8, 192]⟩
abbrev S4x8x8x1x1x192 : Shape := ⟨6, ![4, 8, 8, 1, 1, 192]⟩
abbrev S4x8x8x1x192 : Shape := ⟨5, ![4, 8, 8, 1, 192]⟩

abbrev nBuf : Space → Nat
  | .hbm => 138
  | .vmem => 0
  | .smem => 0
  | _ => 0

abbrev hbmTy0_0 (i : Nat) : BufTy := match i % 128 with
  | 0 => ⟨S4x8x8x12x7x768, .f32⟩
  | 1 => ⟨S4x8x8x3x768, .f32⟩
  | 2 => ⟨S4x12x3x768, .f32⟩
  | 3 => ⟨S4x3x768, .f32⟩
  | 4 => ⟨S4x12, .i32⟩
  | 5 => ⟨S_, .i32⟩
  | 6 => ⟨S_, .i32⟩
  | 7 => ⟨S24x192, .f32⟩
  | 8 => ⟨S12x192, .f32⟩
  | 9 => ⟨S7x192, .f32⟩
  | 10 => ⟨S3x192, .f32⟩
  | 11 => ⟨S3x192, .f32⟩
  | 12 => ⟨S3x192, .f32⟩
  | 13 => ⟨S1x1x1x1x7x192, .f32⟩
  | 14 => ⟨S4x8x8x12x7x192, .f32⟩
  | 15 => ⟨S1x1x3x192, .f32⟩
  | 16 => ⟨S4x12x3x192, .f32⟩
  | 17 => ⟨S1x3x192, .f32⟩
  | 18 => ⟨S4x3x192, .f32⟩
  | 19 => ⟨S1x1x1x3x192, .f32⟩
  | 20 => ⟨S4x8x8x3x192, .f32⟩
  | 21 => ⟨S12x192, .f32⟩
  | 22 => ⟨S1x1x1x12x1x192, .f32⟩
  | 23 => ⟨S4x8x8x12x7x192, .f32⟩
  | 24 => ⟨S_, .i32⟩
  | 25 => ⟨S4x12, .i32⟩
  | 26 => ⟨S4x12, .i1⟩
  | 27 => ⟨S_, .i32⟩
  | 28 => ⟨S4x12, .i32⟩
  | 29 => ⟨S4x12, .i32⟩
  | 30 => ⟨S4x12, .i32⟩
  | 31 => ⟨S4x12x1, .i32⟩
  | 32 => ⟨S1, .i32⟩
  | 33 => ⟨S_, .i32⟩
  | 34 => ⟨S4x12x1, .i32⟩
  | 35 => ⟨S4x12x1, .i1⟩
  | 36 => ⟨S1x1x1, .i32⟩
  | 37 => ⟨S4x12x1, .i32⟩
  | 38 => ⟨S4x12x1, .i1⟩
  | 39 => ⟨S4x12x1, .i1⟩
  | 40 => ⟨S_, .i1⟩
  | 41 => ⟨S4x12, .i1⟩
  | 42 => ⟨S4x12x192, .f32⟩
  | 43 => ⟨S4x12x192, .i1⟩
  | 44 => ⟨S_, .f32⟩
  | 45 => ⟨S4x12x192, .f32⟩
  | 46 => ⟨S4x12x192, .f32⟩
  | 47 => ⟨S4x1x1x12x1x192, .f32⟩
  | 48 => ⟨S4x8x8x12x7x192, .f32⟩
  | 49 => ⟨S12x192, .f32⟩
  | 50 => ⟨S1x12x1x192, .f32⟩
  | 51 => ⟨S4x12x3x192, .f32⟩
  | 52 => ⟨S4x12x1x192, .f32⟩
  | 53 => ⟨S4x12x3x192, .f32⟩
  | 54 => ⟨S_, .f32⟩
  | 55 => ⟨S4x12x3x192, .f32⟩
  | 56 => ⟨S_, .f32⟩
  | 57 => ⟨S4x8x8x3x384, .f32⟩
  | 58 => ⟨S_, .f32⟩
  | 59 => ⟨S4x3x576, .f32⟩
  | 60 => ⟨S_, .i32⟩
  | 61 => ⟨S_, .f32⟩
  | 62 => ⟨S_, .f32⟩
  | 63 => ⟨S_, .f32⟩
  | 64 => ⟨S_, .f32⟩
  | 65 => ⟨S4, .f32⟩
  | 66 => ⟨S_, .f32⟩
  | 67 => ⟨S4, .f32⟩
  | 68 => ⟨S4, .f32⟩
  | 69 => ⟨S8, .f32⟩
  | 70 => ⟨S8, .f32⟩
  | 71 => ⟨S8x8, .f32⟩
  | 72 => ⟨S8x8, .f32⟩
  | 73 => ⟨S1x8x8, .f32⟩
  | 74 => ⟨S1x8x8, .f32⟩
  | 75 => ⟨S2x8x8, .f32⟩
  | 76 => ⟨S2x1x8x8, .f32⟩
  | 77 => ⟨S1x4x1x1, .f32⟩
  | 78 => ⟨S2x4x8x8, .f32⟩
  | 79 => ⟨S2x4x8x8, .f32⟩
  | 80 => ⟨S2x4x8x8, .f32⟩
  | 81 => ⟨S1x4x8x8, .f32⟩
  | 82 => ⟨S4x8x8, .f32⟩
  | 83 => ⟨S48, .f32⟩
  | 84 => ⟨S_, .f32⟩
  | 85 => ⟨S48, .f32⟩
  | 86 => ⟨S48, .f32⟩
  | 87 => ⟨S_, .f32⟩
  | 88 => ⟨S48, .f32⟩
  | 89 => ⟨S48, .f32⟩
  | 90 => ⟨S_, .f32⟩
  | 91 => ⟨S48, .f32⟩
  | 92 => ⟨S48, .f32⟩
  | 93 => ⟨S256, .f32⟩
  | 94 => ⟨S256x1, .f32⟩
  | 95 => ⟨S1x48, .f32⟩
  | 96 => ⟨S256x48, .f32⟩
  | 97 => ⟨S256x48, .f32⟩
  | 98 => ⟨S256x48, .f32⟩
  | 99 => ⟨S256x48, .f32⟩
  | 100 => ⟨S256x48, .f32⟩
  | 101 => ⟨S256x96, .f32⟩
  | 102 => ⟨S1x4x8x8, .f32⟩
  | 103 => ⟨S4x8x8, .f32⟩
  | 104 => ⟨S48, .f32⟩
  | 105 => ⟨S_, .f32⟩
  | 106 => ⟨S48, .f32⟩
  | 107 => ⟨S48, .f32⟩
  | 108 => ⟨S_, .f32⟩
  | 109 => ⟨S48, .f32⟩
  | 110 => ⟨S48, .f32⟩
  | 111 => ⟨S_, .f32⟩
  | 112 => ⟨S48, .f32⟩
  | 113 => ⟨S48, .f32⟩
  | 114 => ⟨S256, .f32⟩
  | 115 => ⟨S256x1, .f32⟩
  | 116 => ⟨S1x48, .f32⟩
  | 117 => ⟨S256x48, .f32⟩
  | 118 => ⟨S256x48, .f32⟩
  | 119 => ⟨S256x48, .f32⟩
  | 120 => ⟨S256x48, .f32⟩
  | 121 => ⟨S256x48, .f32⟩
  | 122 => ⟨S256x96, .f32⟩
  | 123 => ⟨S256x192, .f32⟩
  | 124 => ⟨S4x64x192, .f32⟩
  | 125 => ⟨S4x8x8x192, .f32⟩
  | 126 => ⟨S4x8x8x1x1x192, .f32⟩
  | 127 => ⟨S4x8x8x12x7x192, .f32⟩
  | _ => ⟨S4x8x8x12x7x768, .f32⟩

abbrev hbmTy0_1 (i : Nat) : BufTy := match i % 128 with
  | 0 => ⟨S4x8x8x1x192, .f32⟩
  | 1 => ⟨S4x8x8x3x192, .f32⟩
  | 2 => ⟨S4x8x8x12x7x768, .f32⟩
  | 3 => ⟨S4x8x8x3x768, .f32⟩
  | 4 => ⟨S4x12x3x768, .f32⟩
  | 5 => ⟨S4x3x768, .f32⟩
  | 6 => ⟨S4x8x8x12x7x768, .f32⟩
  | 7 => ⟨S4x8x8x3x768, .f32⟩
  | 8 => ⟨S4x12x3x768, .f32⟩
  | 9 => ⟨S4x3x768, .f32⟩
  | _ => ⟨S4x8x8x12x7x768, .f32⟩

abbrev hbmTy (i : Nat) : BufTy := match i / 128 with
  | 0 => hbmTy0_0 i
  | 1 => hbmTy0_1 i
  | _ => ⟨S4x8x8x12x7x768, .f32⟩

abbrev bufTy : (tb : Table) → Fin (tcTables nBuf tb) → BufTy
  | .hbm, ⟨i, _⟩ => hbmTy i
  | _, _ => ⟨S4x8x8x12x7x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst : Ref sig .tc := ⟨.hbm, 54, rfl⟩
abbrev main_v19 : Ref sig .tc := ⟨.hbm, 55, rfl⟩
abbrev main_cst_0 : Ref sig .tc := ⟨.hbm, 56, rfl⟩
abbrev main_v20 : Ref sig .tc := ⟨.hbm, 57, rfl⟩
abbrev main_cst_1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_4 : Ref sig .tc := ⟨.hbm, 84, rfl⟩
abbrev main_v44 : Ref sig .tc := ⟨.hbm, 85, rfl⟩
abbrev main_v45 : Ref sig .tc := ⟨.hbm, 86, rfl⟩
abbrev main_cst_5 : Ref sig .tc := ⟨.hbm, 87, rfl⟩
abbrev main_v46 : Ref sig .tc := ⟨.hbm, 88, rfl⟩
abbrev main_v47 : Ref sig .tc := ⟨.hbm, 89, rfl⟩
abbrev main_cst_6 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_7 : Ref sig .tc := ⟨.hbm, 105, rfl⟩
abbrev main_v62 : Ref sig .tc := ⟨.hbm, 106, rfl⟩
abbrev main_v63 : Ref sig .tc := ⟨.hbm, 107, rfl⟩
abbrev main_cst_8 : Ref sig .tc := ⟨.hbm, 108, rfl⟩
abbrev main_v64 : Ref sig .tc := ⟨.hbm, 109, rfl⟩
abbrev main_v65 : Ref sig .tc := ⟨.hbm, 110, rfl⟩
abbrev main_cst_9 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩

abbrev nD : Nat := 1
abbrev τ : Topo := Topo.v7x

variable {F : FTy → Type} [FloatOps F]
-- ==== Proof.Range.lean ====
module

public import proofs.«01_k».proof.Defs
public import Idealize.ShloMosaic.Lib.ReduceAll

@[expose] public section

/-!
What the precondition says of the integer arguments: every month names one of the twelve rows of the month table, and
the patch size and the resolution are between 0 and 4096.
-/

namespace Cert.Range

open Idealize.ShloMosaic Cert.Pre_in_range

/-- A bit made of a truth value is one exactly when the value is true. -/
theorem bit_one (p : Bool) : BitVec.ofBool p = 1#1 ↔ p = true := by cases p <;> decide

/-- The conjunction of two bits is one exactly when both are. -/
theorem and_one (x y : BitVec 1) : IntOp.andi x y = 1#1 ↔ x = 1#1 ∧ y = 1#1 := by
  revert x y; decide

instance : Subsingleton S_.Idx := ⟨fun a b => funext fun x => x.elim0⟩

variable [Facts] {F : FTy → Type} [FloatOps F]

/-- The precondition, decoded: the months are below 12, the two sizes at most 4096 (as natural numbers). -/
theorem decode {a0 : FVec F S4x8x8x12x7x768 .f32} {a1 : FVec F S4x8x8x3x768 .f32} {a2 : FVec F S4x12x3x768 .f32}
    {a3 : FVec F S4x3x768 .f32} {a4 : IVec S4x12 32} {a5 a6 : IVec S_ 32} {a7 : FVec F S24x192 .f32} {a8 : FVec F S12x192 .f32}
    {a9 : FVec F S7x192 .f32} {a10 a11 a12 : FVec F S3x192 .f32}
    (e : fn (F := F) a0 a1 a2 a3 a4 a5 a6 a7 a8 a9 a10 a11 a12 = fun _ => 1#1) :
    (∀ j, (a4 j).toNat < 12) ∧ (∀ j, (a5 j).toNat ≤ 4096) ∧ (∀ j, (a6 j).toNat ≤ 4096) := by
  obtain ⟨z⟩ : Nonempty S_.Idx := ⟨fun x => x.elim0⟩
  have e0 := congrFun e z
  simp only [fn, andi, and_one] at e0
  obtain ⟨⟨⟨⟨⟨h1, h2⟩, h3⟩, h4⟩, h5⟩, h6⟩ := e0
  have g1 := fun i => Host.reduce_andi_all _ _ _ _ _ h1 i
  have g2 := fun i => Host.reduce_andi_all _ _ _ _ _ h2 i
  simp only [cmpi, broadcastInDim, constantI, IntOp.cmpi, bit_one] at g1 g2 h3 h4 h5 h6
  simp only [BitVec.sle, BitVec.slt, decide_eq_true_eq, BitVec.toInt, BitVec.toNat_ofNat] at g1 g2 h3 h4 h5 h6
  refine ⟨fun j => ?_, fun j => ?_, fun j => ?_⟩
  · have := g1 j; have := g2 j; omega
  · rw [Subsingleton.elim j z]; omega
  · rw [Subsingleton.elim j z]; omega

end Cert.Range
-- ==== Proof.KernelIdealRows.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise
public import Idealize.ShloMosaic.Lib.WholeRead
public import Idealize.ShloMosaic.Lib.VecWindow

@[expose] public section

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Row `w` of the month table, as a block of one row. -/
def row (x3 : Vec F S12x192 .f32) (w : BitVec 32) : Vec F S1x192 .f32 :=
  fun i => x3 (ix2 ⟨min w.toNat 11, by omega⟩ (i 1))

/-- Rows `4·h` to `4·h + 3` of the spatial table, `h` the point's second coordinate. -/
def band (i : grid0.Coords) (s : Vec F S8x8x768 .f32) : Vec F S4x8x768 .f32 :=
  fun j => s (ix3 ⟨4 * (i 1).val + (j 0).val, by
    have h1 : (i 1).val < 2 := (i 1).isLt
    have h0 : (j 0).val < 4 := (j 0).isLt
    omega⟩ (j 1) (j 2))

/-- The spatial table the first point computes from the one word of `gsd`. -/
def spat (x1 : Vec F S1 .f32) : Vec F S8x8x768 .f32 :=
  k0_pay6 (k0_pay2 (x1 (ix1 0))) k0_pay3 (k0_pay4 (F := F)) (k0_pay5 (F := F))

/-- The embedding of batch row `b`: channel, position and month rows side by side, then zeros. -/
def emb (b : Fin 4) (x0 : Vec F S4x12 .i32) (x2 x3 : Vec F S12x192 .f32) (x4 : Vec F S7x192 .f32) : Vec F S12x7x768 .f32 :=
  k0_pay11 (k0_pay8 x2) (row x3 (x0 (ix2 b 0))) (row x3 (x0 (ix2 b 1))) (row x3 (x0 (ix2 b 2))) (row x3 (x0 (ix2 b 3))) (row x3 (x0 (ix2 b 4))) (row x3 (x0 (ix2 b 5))) (row x3 (x0 (ix2 b 6))) (row x3 (x0 (ix2 b 7))) (row x3 (x0 (ix2 b 8))) (row x3 (x0 (ix2 b 9))) (row x3 (x0 (ix2 b 10))) (row x3 (x0 (ix2 b 11))) x4

/-- The 48 month rows of all batch rows, month by month. -/
def mon48 (x0 : Vec F S4x12 .i32) (x3 : Vec F S12x192 .f32) : FVec F S48x192 .f32 :=
  concatenate S48x192 0 (⟨S1x192, row x3 (x0 (ix2 0 0))⟩ :: ⟨S1x192, row x3 (x0 (ix2 1 0))⟩ :: ⟨S1x192, row x3 (x0 (ix2 2 0))⟩ :: ⟨S1x192, row x3 (x0 (ix2 3 0))⟩ :: ⟨S1x192, row x3 (x0 (ix2 0 1))⟩ :: ⟨S1x192, row x3 (x0 (ix2 1 1))⟩ :: ⟨S1x192, row x3 (x0 (ix2 2 1))⟩ :: ⟨S1x192, row x3 (x0 (ix2 3 1))⟩ :: ⟨S1x192, row x3 (x0 (ix2 0 2))⟩ :: ⟨S1x192, row x3 (x0 (ix2 1 2))⟩ :: ⟨S1x192, row x3 (x0 (ix2 2 2))⟩ :: ⟨S1x192, row x3 (x0 (ix2 3 2))⟩ :: ⟨S1x192, row x3 (x0 (ix2 0 3))⟩ :: ⟨S1x192, row x3 (x0 (ix2 1 3))⟩ :: ⟨S1x192, row x3 (x0 (ix2 2 3))⟩ :: ⟨S1x192, row x3 (x0 (ix2 3 3))⟩ :: ⟨S1x192, row x3 (x0 (ix2 0 4))⟩ :: ⟨S1x192, row x3 (x0 (ix2 1 4))⟩ :: ⟨S1x192, row x3 (x0 (ix2 2 4))⟩ :: ⟨S1x192, row x3 (x0 (ix2 3 4))⟩ :: ⟨S1x192, row x3 (x0 (ix2 0 5))⟩ :: ⟨S1x192, row x3 (x0 (ix2 1 5))⟩ :: ⟨S1x192, row x3 (x0 (ix2 2 5))⟩ :: ⟨S1x192, row x3 (x0 (ix2 3 5))⟩ :: ⟨S1x192, row x3 (x0 (ix2 0 6))⟩ :: ⟨S1x192, row x3 (x0 (ix2 1 6))⟩ :: ⟨S1x192, row x3 (x0 (ix2 2 6))⟩ :: ⟨S1x192, row x3 (x0 (ix2 3 6))⟩ :: ⟨S1x192, row x3 (x0 (ix2 0 7))⟩ :: ⟨S1x192, row x3 (x0 (ix2 1 7))⟩ :: ⟨S1x192, row x3 (x0 (ix2 2 7))⟩ :: ⟨S1x192, row x3 (x0 (ix2 3 7))⟩ :: ⟨S1x192, row x3 (x0 (ix2 0 8))⟩ :: ⟨S1x192, row x3 (x0 (ix2 1 8))⟩ :: ⟨S1x192, row x3 (x0 (ix2 2 8))⟩ :: ⟨S1x192, row x3 (x0 (ix2 3 8))⟩ :: ⟨S1x192, row x3 (x0 (ix2 0 9))⟩ :: ⟨S1x192, row x3 (x0 (ix2 1 9))⟩ :: ⟨S1x192, row x3 (x0 (ix2 2 9))⟩ :: ⟨S1x192, row x3 (x0 (ix2 3 9))⟩ :: ⟨S1x192, row x3 (x0 (ix2 0 10))⟩ :: ⟨S1x192, row x3 (x0 (ix2 1 10))⟩ :: ⟨S1x192, row x3 (x0 (ix2 2 10))⟩ :: ⟨S1x192, row x3 (x0 (ix2 3 10))⟩ :: ⟨S1x192, row x3 (x0 (ix2 0 11))⟩ :: ⟨S1x192, row x3 (x0 (ix2 1 11))⟩ :: ⟨S1x192, row x3 (x0 (ix2 2 11))⟩ :: ⟨S1x192, row x3 (x0 (ix2 3 11))⟩ :: []) concatenates_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S1x192_S48x192_d0

/-- What the first point stores into the third result's buffer. -/
def tt (x0 : Vec F S4x12 .i32) (x2 x3 : Vec F S12x192 .f32) (x6 : Vec F S3x192 .f32) (x10 : Vec F S12x3x4x768 .f32) : Vec F S12x3x4x768 .f32 :=
  k0_pay9 (k0_pay7 x2) (mon48 x0 x3) x6 x10

/-- What the first point stores into the fourth result's buffer. -/
def stt (x7 : Vec F S3x192 .f32) (x11 : Vec F S3x4x768 .f32) : Vec F S3x4x768 .f32 := k0_pay10 x7 x11

/-- What a point stores into the first result's buffer. -/
def xt (i : grid0.Coords) (s : Vec F S8x8x768 .f32) (e : Vec F S12x7x768 .f32) (x8 : Vec F S1x4x12x7x8x768 .f32) : Vec F S1x4x12x7x8x768 .f32 :=
  k0_pay12 (band i s) x8 e

/-- What a point stores into the second result's buffer. -/
def spt (i : grid0.Coords) (s : Vec F S8x8x768 .f32) (x5 : Vec F S3x192 .f32) (x9 : Vec F S1x4x3x8x768 .f32) : Vec F S1x4x3x8x768 .f32 :=
  k0_pay1 (band i s) (k0_pay13 x5) x9

section Loads

variable {sp : Space} {s : Shape} {e : EltTy}

/-- A load of the whole block reads the block. -/
theorem load_whole {M : Memref sig .tc sp s e} (hM : M.IsWhole) (X : s.Idx → Elt F e) (off : Fin s.rank → ℕ)
    (h : ∀ a, off a + s.size a ≤ s.size a) :
    M.view.readAt (Elt F) (Rect.unit (s := s) off s.size h).toLoadRect (hM.unread X) = X := by
  funext x
  rw [hM.readAt_unread]
  congr 1
  funext a
  apply Fin.ext
  show off a + 1 * (x a).val = (x a).val
  have := h a
  omega

/-- A load of one row of the month table reads that row. -/
theorem load_row {M : Memref sig .tc sp S12x192 .f32} (hM : M.IsWhole) (x3 : Vec F S12x192 .f32) (w : BitVec 32)
    (hw : w.toNat < 12) (h : ∀ a, (![w.toNat, 0] : Fin 2 → ℕ) a + S1x192.size a ≤ S12x192.size a) :
    M.view.readAt (Elt F) (Rect.unit (s := S12x192) ![w.toNat, 0] S1x192.size h).toLoadRect (hM.unread x3) = row x3 w := by
  funext x
  rw [hM.readAt_unread]
  unfold row
  congr 1
  funext a
  apply Fin.ext
  have h0 : (x 0).val < 1 := (x 0).isLt
  match a with
  | ⟨0, _⟩ => show w.toNat + 1 * (x 0).val = min w.toNat 11; omega
  | ⟨1, _⟩ => show 0 + 1 * (x 1).val = (x 1).val; omega

/-- A load of four rows of the spatial table at the point's offsets reads the point's rows. -/
theorem load_band {M : Memref sig .tc sp S8x8x768 .f32} (hM : M.IsWhole) (i : grid0.Coords) (X : Vec F S8x8x768 .f32)
    (h : ∀ a, k0_off73 i a + S4x8x768.size a ≤ S8x8x768.size a) :
    M.view.readAt (Elt F) (Rect.unit (s := S8x8x768) (k0_off73 i) S4x8x768.size h).toLoadRect (hM.unread X) = band i X := by
  funext x
  rw [hM.readAt_unread]
  unfold band
  congr 1
  funext a
  apply Fin.ext
  have h1 : (i 1).val < 2 := (i 1).isLt
  match a with
  | ⟨0, _⟩ =>
    show (BitVec.mul 4#32 (BitVec.ofNat 32 (i 1).val)).toNat + 1 * (x 0).val = 4 * (i 1).val + (x 0).val
    have : (BitVec.mul 4#32 (BitVec.ofNat 32 (i 1).val)).toNat = 4 * (i 1).val := by
      rcases (show (i 1).val = 0 ∨ (i 1).val = 1 by omega) with e | e <;> rw [e] <;> rfl
    omega
  | ⟨1, _⟩ => show 0 + 1 * (x 1).val = (x 1).val; omega
  | ⟨2, _⟩ => show 0 + 1 * (x 2).val = (x 2).val; omega

/-- A load of one word of the months table reads that word. -/
theorem load_word {M : Memref sig .tc sp S4x12 .i32} (hM : M.IsWhole) (x0 : Vec F S4x12 .i32) (b : Fin 4) (t : Fin 12)
    (off : Fin 2 → ℕ) (ho : off = ![b.val, t.val]) (h : ∀ a, off a + S1x1.size a ≤ S4x12.size a) (x : S1x1.Idx) :
    M.view.readAt (Elt F) (Rect.unit (s := S4x12) off S1x1.size h).toLoadRect (hM.unread x0) x = x0 (ix2 b t) := by
  subst ho
  rw [hM.readAt_unread]
  congr 1
  funext a
  apply Fin.ext
  have h0 : (x 0).val < 1 := (x 0).isLt
  have h1 : (x 1).val < 1 := (x 1).isLt
  match a with
  | ⟨0, _⟩ => show b.val + 1 * (x 0).val = b.val; omega
  | ⟨1, _⟩ => show t.val + 1 * (x 1).val = t.val; omega

/-- A load of the one word of `gsd` reads that word. -/
theorem load_gsd {M : Memref sig .tc sp S1 .f32} (hM : M.IsWhole) (x1 : Vec F S1 .f32)
    (off : Fin 1 → ℕ) (h : ∀ a, off a + S1.size a ≤ S1.size a) (x : S1.Idx) :
    M.view.readAt (Elt F) (Rect.unit (s := S1) off S1.size h).toLoadRect (hM.unread x1) x = x1 (ix1 0) := by
  rw [load_whole hM]
  congr 1
  funext a
  apply Fin.ext
  have h0 : (x 0).val < 1 := (x 0).isLt
  match a with
  | ⟨0, _⟩ => show (x 0).val = 0; omega

/-- A load of four rows at the point's offsets from contents reading `X` reads the point's rows of `X`. -/
theorem load_band_of {M : Memref sig .tc sp S8x8x768 .f32} (hM : M.IsWhole) (i : grid0.Coords) {X : Vec F S8x8x768 .f32}
    {f : M.view.ty.Contents (Elt F)} (hf : M.view.read (Elt F) f = X) (h : ∀ a, k0_off73 i a + S4x8x768.size a ≤ S8x8x768.size a) :
    M.view.readAt (Elt F) (Rect.unit (s := S8x8x768) (k0_off73 i) S4x8x768.size h).toLoadRect f = band i X := by
  rw [hM.eq_unread hf]
  exact load_band hM i X h

/-- A load of the whole block from contents reading `X` reads `X`. -/
theorem load_whole_of {M : Memref sig .tc sp s e} (hM : M.IsWhole) {X : s.Idx → Elt F e} {f : M.view.ty.Contents (Elt F)}
    (hf : M.view.read (Elt F) f = X) (off : Fin s.rank → ℕ) (h : ∀ a, off a + s.size a ≤ s.size a) :
    M.view.readAt (Elt F) (Rect.unit (s := s) off s.size h).toLoadRect f = X := by
  rw [hM.eq_unread hf]
  exact load_whole hM X off h

/-- A point's first coordinate as the word that addresses the months table. -/
theorem word_off (i : grid0.Coords) (t : ℕ) :
    (![(BitVec.ofNat 32 (i 0).val).toNat, t] : Fin 2 → ℕ) = ![(i 0).val, t] := by
  have h0 : (i 0).val < 4 := (i 0).isLt
  have : (BitVec.ofNat 32 (i 0).val).toNat = (i 0).val := by
    rw [BitVec.toNat_ofNat]; exact Nat.mod_eq_of_lt (by omega)
  rw [this]

/-- A load of the month row a word of the months table names reads that row. -/
theorem load_month {sp' : Space} {M : Memref sig .tc sp S4x12 .i32} (hM : M.IsWhole) {N : Memref sig .tc sp' S12x192 .f32} (hN : N.IsWhole)
    (x0 : Vec F S4x12 .i32) (x3 : Vec F S12x192 .f32) (hm : ∀ j, (x0 j).toNat < 12) (b : Fin 4) (t : Fin 12)
    (off : Fin 2 → ℕ) (ho : off = ![b.val, t.val]) (h : ∀ a, off a + S1x1.size a ≤ S4x12.size a) (x : S1x1.Idx)
    (h' : ∀ a, (![(M.view.readAt (Elt F) (Rect.unit (s := S4x12) off S1x1.size h).toLoadRect (hM.unread x0) x).toNat, 0] : Fin 2 → ℕ) a
      + S1x192.size a ≤ S12x192.size a) :
    N.view.readAt (Elt F) (Rect.unit (s := S12x192)
      ![(M.view.readAt (Elt F) (Rect.unit (s := S4x12) off S1x1.size h).toLoadRect (hM.unread x0) x).toNat, 0] S1x192.size h').toLoadRect
      (hN.unread x3) = row x3 (x0 (ix2 b t)) := by
  have e := load_word hM x0 b t off ho h x
  exact (load_row hN x3 _ (by rw [e]; exact hm _) h').trans (congrArg (row x3) e)

/-- Side-by-side pieces that agree one by one agree as a whole. -/
theorem pieces_congr {t : Shape} {a : Fin t.rank} {xs ys : List ((s : Shape) × (s.Idx → Elt F .f32))} (e : xs = ys)
    (hx : Shape.Concatenates (xs.map (·.1)) t a) (hy : Shape.Concatenates (ys.map (·.1)) t a) :
    concatenate t a xs hx = concatenate t a ys hy := by
  subst e
  rfl

/-- One more piece in front. -/
theorem piece_cons {v w : Vec F S1x192 .f32} {xs ys : List ((s : Shape) × (s.Idx → Elt F .f32))} (e : v = w) (h : xs = ys) :
    (⟨S1x192, v⟩ :: xs : List ((s : Shape) × (s.Idx → Elt F .f32))) = ⟨S1x192, w⟩ :: ys := by
  rw [e, h]

end Loads

/-- A row index below twelve is inside the month table. -/
theorem row_inb {w : BitVec 32} (hw : w.toNat < 12) : ∀ a, (![w.toNat, 0] : Fin 2 → ℕ) a + S1x192.size a ≤ S12x192.size a := by
  intro a
  match a with
  | ⟨0, _⟩ => show w.toNat + 1 ≤ 12; omega
  | ⟨1, _⟩ => show 0 + 192 ≤ 192; omega

end Cert.KernelIdeal.Point

end
-- ==== Proof.KernelIdealPointA.lean ====
module

public import proofs.«01_k».proof.Proof.KernelIdealRows

@[expose] public section

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- At the first point the body fills both tables and writes all four results’ buffers. -/
theorem body_A (c : Dev nD) (i : grid0.Coords) (arg2 : Memref sig .tc .smem S4x12 .i32) (harg2 : arg2.IsWhole) (arg3 : Memref sig .tc .smem S1 .f32) (harg3 : arg3.IsWhole) (arg4 : Memref sig .tc .vmem S12x192 .f32) (harg4 : arg4.IsWhole) (arg5 : Memref sig .tc .vmem S12x192 .f32) (harg5 : arg5.IsWhole) (arg6 : Memref sig .tc .vmem S7x192 .f32) (harg6 : arg6.IsWhole) (arg7 : Memref sig .tc .vmem S3x192 .f32) (harg7 : arg7.IsWhole) (arg8 : Memref sig .tc .vmem S3x192 .f32) (harg8 : arg8.IsWhole) (arg9 : Memref sig .tc .vmem S3x192 .f32) (harg9 : arg9.IsWhole) (arg10 : Memref sig .tc .vmem S1x4x12x7x8x768 .f32) (harg10 : arg10.IsWhole) (arg11 : Memref sig .tc .vmem S1x4x3x8x768 .f32) (harg11 : arg11.IsWhole) (arg12 : Memref sig .tc .vmem S12x3x4x768 .f32) (harg12 : arg12.IsWhole) (arg13 : Memref sig .tc .vmem S3x4x768 .f32) (harg13 : arg13.IsWhole) (arg14 : Memref sig .tc .vmem S1x4x12x7x8x768 .f32) (harg14 : arg14.IsWhole) (arg15 : Memref sig .tc .vmem S1x4x3x8x768 .f32) (harg15 : arg15.IsWhole) (arg16 : Memref sig .tc .vmem S12x3x4x768 .f32) (harg16 : arg16.IsWhole) (arg17 : Memref sig .tc .vmem S3x4x768 .f32) (harg17 : arg17.IsWhole) (arg18 : Memref sig .tc .vmem S12x7x768 .f32) (harg18 : arg18.IsWhole) (arg19 : Memref sig .tc .vmem S8x8x768 .f32) (harg19 : arg19.IsWhole)
    (x0 : Vec F S4x12 .i32) (x1 : Vec F S1 .f32) (x2 : Vec F S12x192 .f32) (x3 : Vec F S12x192 .f32) (x4 : Vec F S7x192 .f32) (x5 : Vec F S3x192 .f32) (x6 : Vec F S3x192 .f32) (x7 : Vec F S3x192 .f32) (x8 : Vec F S1x4x12x7x8x768 .f32) (x9 : Vec F S1x4x3x8x768 .f32) (x10 : Vec F S12x3x4x768 .f32) (x11 : Vec F S3x4x768 .f32)  (hm : ∀ j, (x0 j).toNat < 12) (hc1 : k0_cond1 i = 1#1) (hc2 : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (xt i (spat x1) (emb (i 0) x0 x2 x3 x4) x8) ∗ owns (c : Thread nD τ) arg15 fullShare (spt i (spat x1) x5 x9) ∗ owns (c : Thread nD τ) arg16 fullShare (tt x0 x2 x3 x6 x10) ∗ owns (c : Thread nD τ) arg17 fullShare (stt x7 x11) ∗ owns (c : Thread nD τ) arg18 fullShare (emb (i 0) x0 x2 x3 x4) ∗ owns (c : Thread nD τ) arg19 fullShare (spat x1)) -∗ K ⟨⟩))
      ⊢ wp frame (wpE (defs₀ (F := F)) Variants.none c none) E (cc0__tc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__tc_body_eq_skeleton]; unfold cc0__tc_body_skel
  simp only [k0_part9_eq_skeleton, k0_part8_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  have hw : ∀ (r : LoadRect S4x12) (j : r.shape.Idx), (arg2.view.readAt (Elt F) r (harg2.unread x0) j).toNat < 12 := by
    intro r j; rw [harg2.readAt_unread]; exact hm _
  sl_exec (disch := first | sl_exact hc1 | sl_exact hc2 | exact fun _ => row_inb (hw _ _))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    refine (View.read_writes_full _ _ _ _ _).trans ?_
    unfold xt
    refine congr (congr (congrArg k0_pay12 ?_) ?_) ?_
    · refine load_band_of harg19 i ?_ _
      refine (View.read_writes_full _ _ _ _ _).trans ?_
      unfold spat
      exact congrArg (fun w => k0_pay6 (k0_pay2 w) k0_pay3 (k0_pay4 (F := F)) (k0_pay5 (F := F))) (load_gsd harg3 x1 _ _ _)
    · exact load_whole harg10 x8 _ _
    · refine load_whole_of harg18 ?_ _ _
      refine (View.read_writes_full _ _ _ _ _).trans ?_
      unfold emb
      refine congr (congr (congr (congr (congr (congr (congr (congr (congr (congr (congr (congr (congr (congrArg k0_pay11 ?_) ?_) ?_) ?_) ?_) ?_) ?_) ?_) ?_) ?_) ?_) ?_) ?_) ?_
      · exact congrArg k0_pay8 (load_whole harg4 x2 _ _)
      · exact load_month harg2 harg5 x0 x3 hm (i 0) 0 _ (word_off i 0) _ _ _
      · exact load_month harg2 harg5 x0 x3 hm (i 0) 1 _ (word_off i 1) _ _ _
      · exact load_month harg2 harg5 x0 x3 hm (i 0) 2 _ (word_off i 2) _ _ _
      · exact load_month harg2 harg5 x0 x3 hm (i 0) 3 _ (word_off i 3) _ _ _
      · exact load_month harg2 harg5 x0 x3 hm (i 0) 4 _ (word_off i 4) _ _ _
      · exact load_month harg2 harg5 x0 x3 hm (i 0) 5 _ (word_off i 5) _ _ _
      · exact load_month harg2 harg5 x0 x3 hm (i 0) 6 _ (word_off i 6) _ _ _
      · exact load_month harg2 harg5 x0 x3 hm (i 0) 7 _ (word_off i 7) _ _ _
      · exact load_month harg2 harg5 x0 x3 hm (i 0) 8 _ (word_off i 8) _ _ _
      · exact load_month harg2 harg5 x0 x3 hm (i 0) 9 _ (word_off i 9) _ _ _
      · exact load_month harg2 harg5 x0 x3 hm (i 0) 10 _ (word_off i 10) _ _ _
      · exact load_month harg2 harg5 x0 x3 hm (i 0) 11 _ (word_off i 11) _ _ _
      · exact load_whole harg6 x4 _ _
  isplitl [H13]
  · iexists _; isplitr; swap; · iexact H13
    ipureintro
    refine (View.read_writes_full _ _ _ _ _).trans ?_
    unfold spt
    refine congr (congr (congrArg k0_pay1 ?_) ?_) ?_
    · refine load_band_of harg19 i ?_ _
      refine (View.read_writes_full _ _ _ _ _).trans ?_
      unfold spat
      exact congrArg (fun w => k0_pay6 (k0_pay2 w) k0_pay3 (k0_pay4 (F := F)) (k0_pay5 (F := F))) (load_gsd harg3 x1 _ _ _)
    · exact congrArg k0_pay13 (load_whole harg7 x5 _ _)
    · exact load_whole harg11 x9 _ _
  isplitl [H14]
  · iexists _; isplitr; swap; · iexact H14
    ipureintro
    refine (View.read_writes_full _ _ _ _ _).trans ?_
    unfold tt
    refine congr (congr (congr (congrArg k0_pay9 ?_) ?_) ?_) ?_
    · exact congrArg k0_pay7 (load_whole harg4 x2 _ _)
    · unfold mon48
      refine pieces_congr ?_ _ _
      refine piece_cons (load_month harg2 harg5 x0 x3 hm 0 0 _ rfl _ _ _) ?_
      refine piece_cons (load_month harg2 harg5 x0 x3 hm 1 0 _ rfl _ _ _) ?_
      refine piece_cons (load_month harg2 harg5 x0 x3 hm 2 0 _ rfl _ _ _) ?_
      refine piece_cons (load_month harg2 harg5 x0 x3 hm 3 0 _ rfl _ _ _) ?_
      refine piece_cons (load_month harg2 harg5 x0 x3 hm 0 1 _ rfl _ _ _) ?_
      refine piece_cons (load_month harg2 harg5 x0 x3 hm 1 1 _ rfl _ _ _) ?_
      refine piece_cons (load_month harg2 harg5 x0 x3 hm 2 1 _ rfl _ _ _) ?_
      refine piece_cons (load_month harg2 harg5 x0 x3 hm 3 1 _ rfl _ _ _) ?_
      refine piece_cons (load_month harg2 harg5 x0 x3 hm 0 2 _ rfl _ _ _) ?_
      refine piece_cons (load_month harg2 harg5 x0 x3 hm 1 2 _ rfl _ _ _) ?_
      refine piece_cons (load_month harg2 harg5 x0 x3 hm 2 2 _ rfl _ _ _) ?_
      refine piece_cons (load_month harg2 harg5 x0 x3 hm 3 2 _ rfl _ _ _) ?_
      refine piece_cons (load_month harg2 harg5 x0 x3 hm 0 3 _ rfl _ _ _) ?_
      refine piece_cons (load_month harg2 harg5 x0 x3 hm 1 3 _ rfl _ _ _) ?_
      refine piece_cons (load_month harg2 harg5 x0 x3 hm 2 3 _ rfl _ _ _) ?_
      refine piece_cons (load_month harg2 harg5 x0 x3 hm 3 3 _ rfl _ _ _) ?_
      refine piece_cons (load_month harg2 harg5 x0 x3 hm 0 4 _ rfl _ _ _) ?_
      refine piece_cons (load_month harg2 harg5 x0 x3 hm 1 4 _ rfl _ _ _) ?_
      refine piece_cons (load_month harg2 harg5 x0 x3 hm 2 4 _ rfl _ _ _) ?_
      refine piece_cons (load_month harg2 harg5 x0 x3 hm 3 4 _ rfl _ _ _) ?_
      refine piece_cons (load_month harg2 harg5 x0 x3 hm 0 5 _ rfl _ _ _) ?_
      refine piece_cons (load_month harg2 harg5 x0 x3 hm 1 5 _ rfl _ _ _) ?_
      refine piece_cons (load_month harg2 harg5 x0 x3 hm 2 5 _ rfl _ _ _) ?_
      refine piece_cons (load_month harg2 harg5 x0 x3 hm 3 5 _ rfl _ _ _) ?_
      refine piece_cons (load_month harg2 harg5 x0 x3 hm 0 6 _ rfl _ _ _) ?_
      refine piece_cons (load_month harg2 harg5 x0 x3 hm 1 6 _ rfl _ _ _) ?_
      refine piece_cons (load_month harg2 harg5 x0 x3 hm 2 6 _ rfl _ _ _) ?_
      refine piece_cons (load_month harg2 harg5 x0 x3 hm 3 6 _ rfl _ _ _) ?_
      refine piece_cons (load_month harg2 harg5 x0 x3 hm 0 7 _ rfl _ _ _) ?_
      refine piece_cons (load_month harg2 harg5 x0 x3 hm 1 7 _ rfl _ _ _) ?_
      refine piece_cons (load_month harg2 harg5 x0 x3 hm 2 7 _ rfl _ _ _) ?_
      refine piece_cons (load_month harg2 harg5 x0 x3 hm 3 7 _ rfl _ _ _) ?_
      refine piece_cons (load_month harg2 harg5 x0 x3 hm 0 8 _ rfl _ _ _) ?_
      refine piece_cons (load_month harg2 harg5 x0 x3 hm 1 8 _ rfl _ _ _) ?_
      refine piece_cons (load_month harg2 harg5 x0 x3 hm 2 8 _ rfl _ _ _) ?_
      refine piece_cons (load_month harg2 harg5 x0 x3 hm 3 8 _ rfl _ _ _) ?_
      refine piece_cons (load_month harg2 harg5 x0 x3 hm 0 9 _ rfl _ _ _) ?_
      refine piece_cons (load_month harg2 harg5 x0 x3 hm 1 9 _ rfl _ _ _) ?_
      refine piece_cons (load_month harg2 harg5 x0 x3 hm 2 9 _ rfl _ _ _) ?_
      refine piece_cons (load_month harg2 harg5 x0 x3 hm 3 9 _ rfl _ _ _) ?_
      refine piece_cons (load_month harg2 harg5 x0 x3 hm 0 10 _ rfl _ _ _) ?_
      refine piece_cons (load_month harg2 harg5 x0 x3 hm 1 10 _ rfl _ _ _) ?_
      refine piece_cons (load_month harg2 harg5 x0 x3 hm 2 10 _ rfl _ _ _) ?_
      refine piece_cons (load_month harg2 harg5 x0 x3 hm 3 10 _ rfl _ _ _) ?_
      refine piece_cons (load_month harg2 harg5 x0 x3 hm 0 11 _ rfl _ _ _) ?_
      refine piece_cons (load_month harg2 harg5 x0 x3 hm 1 11 _ rfl _ _ _) ?_
      refine piece_cons (load_month harg2 harg5 x0 x3 hm 2 11 _ rfl _ _ _) ?_
      refine piece_cons (load_month harg2 harg5 x0 x3 hm 3 11 _ rfl _ _ _) ?_
      rfl
    · exact load_whole harg8 x6 _ _
    · exact load_whole harg12 x10 _ _
  isplitl [H15]
  · iexists _; isplitr; swap; · iexact H15
    ipureintro
    refine (View.read_writes_full _ _ _ _ _).trans ?_
    unfold stt
    exact congr (congrArg k0_pay10 (load_whole harg9 x7 _ _)) (load_whole harg13 x11 _ _)
  isplitl [H16]
  · iexists _; isplitr; swap; · iexact H16
    ipureintro
    refine (View.read_writes_full _ _ _ _ _).trans ?_
    unfold emb
    refine congr (congr (congr (congr (congr (congr (congr (congr (congr (congr (congr (congr (congr (congrArg k0_pay11 ?_) ?_) ?_) ?_) ?_) ?_) ?_) ?_) ?_) ?_) ?_) ?_) ?_) ?_
    · exact congrArg k0_pay8 (load_whole harg4 x2 _ _)
    · exact load_month harg2 harg5 x0 x3 hm (i 0) 0 _ (word_off i 0) _ _ _
    · exact load_month harg2 harg5 x0 x3 hm (i 0) 1 _ (word_off i 1) _ _ _
    · exact load_month harg2 harg5 x0 x3 hm (i 0) 2 _ (word_off i 2) _ _ _
    · exact load_month harg2 harg5 x0 x3 hm (i 0) 3 _ (word_off i 3) _ _ _
    · exact load_month harg2 harg5 x0 x3 hm (i 0) 4 _ (word_off i 4) _ _ _
    · exact load_month harg2 harg5 x0 x3 hm (i 0) 5 _ (word_off i 5) _ _ _
    · exact load_month harg2 harg5 x0 x3 hm (i 0) 6 _ (word_off i 6) _ _ _
    · exact load_month harg2 harg5 x0 x3 hm (i 0) 7 _ (word_off i 7) _ _ _
    · exact load_month harg2 harg5 x0 x3 hm (i 0) 8 _ (word_off i 8) _ _ _
    · exact load_month harg2 harg5 x0 x3 hm (i 0) 9 _ (word_off i 9) _ _ _
    · exact load_month harg2 harg5 x0 x3 hm (i 0) 10 _ (word_off i 10) _ _ _
    · exact load_month harg2 harg5 x0 x3 hm (i 0) 11 _ (word_off i 11) _ _ _
    · exact load_whole harg6 x4 _ _
  iexists _; isplitr; swap; · iexact H17
  ipureintro
  refine (View.read_writes_full _ _ _ _ _).trans ?_
  unfold spat
  exact congrArg (fun w => k0_pay6 (k0_pay2 w) k0_pay3 (k0_pay4 (F := F)) (k0_pay5 (F := F))) (load_gsd harg3 x1 _ _ _)

end Cert.KernelIdeal.Point

end
-- ==== Proof.KernelIdealPointB.lean ====
module

public import proofs.«01_k».proof.Proof.KernelIdealRows

@[expose] public section

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- At the first point of a later batch row the body refills the embedding and writes the first two results’ buffers. -/
theorem body_B (c : Dev nD) (i : grid0.Coords) (arg2 : Memref sig .tc .smem S4x12 .i32) (harg2 : arg2.IsWhole) (arg3 : Memref sig .tc .smem S1 .f32) (harg3 : arg3.IsWhole) (arg4 : Memref sig .tc .vmem S12x192 .f32) (harg4 : arg4.IsWhole) (arg5 : Memref sig .tc .vmem S12x192 .f32) (harg5 : arg5.IsWhole) (arg6 : Memref sig .tc .vmem S7x192 .f32) (harg6 : arg6.IsWhole) (arg7 : Memref sig .tc .vmem S3x192 .f32) (harg7 : arg7.IsWhole) (arg8 : Memref sig .tc .vmem S3x192 .f32) (harg8 : arg8.IsWhole) (arg9 : Memref sig .tc .vmem S3x192 .f32) (harg9 : arg9.IsWhole) (arg10 : Memref sig .tc .vmem S1x4x12x7x8x768 .f32) (harg10 : arg10.IsWhole) (arg11 : Memref sig .tc .vmem S1x4x3x8x768 .f32) (harg11 : arg11.IsWhole) (arg12 : Memref sig .tc .vmem S12x3x4x768 .f32) (harg12 : arg12.IsWhole) (arg13 : Memref sig .tc .vmem S3x4x768 .f32) (harg13 : arg13.IsWhole) (arg14 : Memref sig .tc .vmem S1x4x12x7x8x768 .f32) (harg14 : arg14.IsWhole) (arg15 : Memref sig .tc .vmem S1x4x3x8x768 .f32) (harg15 : arg15.IsWhole) (arg16 : Memref sig .tc .vmem S12x3x4x768 .f32) (harg16 : arg16.IsWhole) (arg17 : Memref sig .tc .vmem S3x4x768 .f32) (harg17 : arg17.IsWhole) (arg18 : Memref sig .tc .vmem S12x7x768 .f32) (harg18 : arg18.IsWhole) (arg19 : Memref sig .tc .vmem S8x8x768 .f32) (harg19 : arg19.IsWhole)
    (x0 : Vec F S4x12 .i32) (x1 : Vec F S1 .f32) (x2 : Vec F S12x192 .f32) (x3 : Vec F S12x192 .f32) (x4 : Vec F S7x192 .f32) (x5 : Vec F S3x192 .f32) (x6 : Vec F S3x192 .f32) (x7 : Vec F S3x192 .f32) (x8 : Vec F S1x4x12x7x8x768 .f32) (x9 : Vec F S1x4x3x8x768 .f32) (x10 : Vec F S12x3x4x768 .f32) (x11 : Vec F S3x4x768 .f32) (d14 : Vec F S12x3x4x768 .f32) (d15 : Vec F S3x4x768 .f32) (xs1 : Vec F S8x8x768 .f32) (hm : ∀ j, (x0 j).toNat < 12) (hc1 : ¬k0_cond1 i = 1#1) (hc2 : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare d14 ∗ owns (c : Thread nD τ) arg17 fullShare d15 ∗ (∃ d, owns (c : Thread nD τ) arg18 fullShare d) ∗ owns (c : Thread nD τ) arg19 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (xt i xs1 (emb (i 0) x0 x2 x3 x4) x8) ∗ owns (c : Thread nD τ) arg15 fullShare (spt i xs1 x5 x9) ∗ owns (c : Thread nD τ) arg16 fullShare d14 ∗ owns (c : Thread nD τ) arg17 fullShare d15 ∗ owns (c : Thread nD τ) arg18 fullShare (emb (i 0) x0 x2 x3 x4) ∗ owns (c : Thread nD τ) arg19 fullShare xs1) -∗ K ⟨⟩))
      ⊢ wp frame (wpE (defs₀ (F := F)) Variants.none c none) E (cc0__tc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__tc_body_eq_skeleton]; unfold cc0__tc_body_skel
  simp only [k0_part9_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg19.eq_unread hf17
  have hw : ∀ (r : LoadRect S4x12) (j : r.shape.Idx), (arg2.view.readAt (Elt F) r (harg2.unread x0) j).toNat < 12 := by
    intro r j; rw [harg2.readAt_unread]; exact hm _
  sl_exec (disch := first | sl_exact hc1 | sl_exact hc2 | exact fun _ => row_inb (hw _ _))
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    refine (View.read_writes_full _ _ _ _ _).trans ?_
    unfold xt
    refine congr (congr (congrArg k0_pay12 ?_) ?_) ?_
    · exact load_band harg19 i xs1 _
    · exact load_whole harg10 x8 _ _
    · refine load_whole_of harg18 ?_ _ _
      refine (View.read_writes_full _ _ _ _ _).trans ?_
      unfold emb
      refine congr (congr (congr (congr (congr (congr (congr (congr (congr (congr (congr (congr (congr (congrArg k0_pay11 ?_) ?_) ?_) ?_) ?_) ?_) ?_) ?_) ?_) ?_) ?_) ?_) ?_) ?_
      · exact congrArg k0_pay8 (load_whole harg4 x2 _ _)
      · exact load_month harg2 harg5 x0 x3 hm (i 0) 0 _ (word_off i 0) _ _ _
      · exact load_month harg2 harg5 x0 x3 hm (i 0) 1 _ (word_off i 1) _ _ _
      · exact load_month harg2 harg5 x0 x3 hm (i 0) 2 _ (word_off i 2) _ _ _
      · exact load_month harg2 harg5 x0 x3 hm (i 0) 3 _ (word_off i 3) _ _ _
      · exact load_month harg2 harg5 x0 x3 hm (i 0) 4 _ (word_off i 4) _ _ _
      · exact load_month harg2 harg5 x0 x3 hm (i 0) 5 _ (word_off i 5) _ _ _
      · exact load_month harg2 harg5 x0 x3 hm (i 0) 6 _ (word_off i 6) _ _ _
      · exact load_month harg2 harg5 x0 x3 hm (i 0) 7 _ (word_off i 7) _ _ _
      · exact load_month harg2 harg5 x0 x3 hm (i 0) 8 _ (word_off i 8) _ _ _
      · exact load_month harg2 harg5 x0 x3 hm (i 0) 9 _ (word_off i 9) _ _ _
      · exact load_month harg2 harg5 x0 x3 hm (i 0) 10 _ (word_off i 10) _ _ _
      · exact load_month harg2 harg5 x0 x3 hm (i 0) 11 _ (word_off i 11) _ _ _
      · exact load_whole harg6 x4 _ _
  isplitl [H13]
  · iexists _; isplitr; swap; · iexact H13
    ipureintro
    refine (View.read_writes_full _ _ _ _ _).trans ?_
    unfold spt
    refine congr (congr (congrArg k0_pay1 ?_) ?_) ?_
    · exact load_band harg19 i xs1 _
    · exact congrArg k0_pay13 (load_whole harg7 x5 _ _)
    · exact load_whole harg11 x9 _ _
  isplitl [H14]
  · iexists _; isplitr; · ipureintro; exact hf14
    iexact H14
  isplitl [H15]
  · iexists _; isplitr; · ipureintro; exact hf15
    iexact H15
  isplitl [H16]
  · iexists _; isplitr; swap; · iexact H16
    ipureintro
    refine (View.read_writes_full _ _ _ _ _).trans ?_
    unfold emb
    refine congr (congr (congr (congr (congr (congr (congr (congr (congr (congr (congr (congr (congr (congrArg k0_pay11 ?_) ?_) ?_) ?_) ?_) ?_) ?_) ?_) ?_) ?_) ?_) ?_) ?_) ?_
    · exact congrArg k0_pay8 (load_whole harg4 x2 _ _)
    · exact load_month harg2 harg5 x0 x3 hm (i 0) 0 _ (word_off i 0) _ _ _
    · exact load_month harg2 harg5 x0 x3 hm (i 0) 1 _ (word_off i 1) _ _ _
    · exact load_month harg2 harg5 x0 x3 hm (i 0) 2 _ (word_off i 2) _ _ _
    · exact load_month harg2 harg5 x0 x3 hm (i 0) 3 _ (word_off i 3) _ _ _
    · exact load_month harg2 harg5 x0 x3 hm (i 0) 4 _ (word_off i 4) _ _ _
    · exact load_month harg2 harg5 x0 x3 hm (i 0) 5 _ (word_off i 5) _ _ _
    · exact load_month harg2 harg5 x0 x3 hm (i 0) 6 _ (word_off i 6) _ _ _
    · exact load_month harg2 harg5 x0 x3 hm (i 0) 7 _ (word_off i 7) _ _ _
    · exact load_month harg2 harg5 x0 x3 hm (i 0) 8 _ (word_off i 8) _ _ _
    · exact load_month harg2 harg5 x0 x3 hm (i 0) 9 _ (word_off i 9) _ _ _
    · exact load_month harg2 harg5 x0 x3 hm (i 0) 10 _ (word_off i 10) _ _ _
    · exact load_month harg2 harg5 x0 x3 hm (i 0) 11 _ (word_off i 11) _ _ _
    · exact load_whole harg6 x4 _ _
  iexists _; isplitr; · ipureintro; exact hf17
  iexact H17

end Cert.KernelIdeal.Point

end
-- ==== Proof.KernelIdealPointC.lean ====
module

public import proofs.«01_k».proof.Proof.KernelIdealRows

@[expose] public section

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- At the second point of a batch row the body only writes the first two results’ buffers. -/
theorem body_C (c : Dev nD) (i : grid0.Coords) (arg2 : Memref sig .tc .smem S4x12 .i32) (harg2 : arg2.IsWhole) (arg3 : Memref sig .tc .smem S1 .f32) (harg3 : arg3.IsWhole) (arg4 : Memref sig .tc .vmem S12x192 .f32) (harg4 : arg4.IsWhole) (arg5 : Memref sig .tc .vmem S12x192 .f32) (harg5 : arg5.IsWhole) (arg6 : Memref sig .tc .vmem S7x192 .f32) (harg6 : arg6.IsWhole) (arg7 : Memref sig .tc .vmem S3x192 .f32) (harg7 : arg7.IsWhole) (arg8 : Memref sig .tc .vmem S3x192 .f32) (harg8 : arg8.IsWhole) (arg9 : Memref sig .tc .vmem S3x192 .f32) (harg9 : arg9.IsWhole) (arg10 : Memref sig .tc .vmem S1x4x12x7x8x768 .f32) (harg10 : arg10.IsWhole) (arg11 : Memref sig .tc .vmem S1x4x3x8x768 .f32) (harg11 : arg11.IsWhole) (arg12 : Memref sig .tc .vmem S12x3x4x768 .f32) (harg12 : arg12.IsWhole) (arg13 : Memref sig .tc .vmem S3x4x768 .f32) (harg13 : arg13.IsWhole) (arg14 : Memref sig .tc .vmem S1x4x12x7x8x768 .f32) (harg14 : arg14.IsWhole) (arg15 : Memref sig .tc .vmem S1x4x3x8x768 .f32) (harg15 : arg15.IsWhole) (arg16 : Memref sig .tc .vmem S12x3x4x768 .f32) (harg16 : arg16.IsWhole) (arg17 : Memref sig .tc .vmem S3x4x768 .f32) (harg17 : arg17.IsWhole) (arg18 : Memref sig .tc .vmem S12x7x768 .f32) (harg18 : arg18.IsWhole) (arg19 : Memref sig .tc .vmem S8x8x768 .f32) (harg19 : arg19.IsWhole)
    (x0 : Vec F S4x12 .i32) (x1 : Vec F S1 .f32) (x2 : Vec F S12x192 .f32) (x3 : Vec F S12x192 .f32) (x4 : Vec F S7x192 .f32) (x5 : Vec F S3x192 .f32) (x6 : Vec F S3x192 .f32) (x7 : Vec F S3x192 .f32) (x8 : Vec F S1x4x12x7x8x768 .f32) (x9 : Vec F S1x4x3x8x768 .f32) (x10 : Vec F S12x3x4x768 .f32) (x11 : Vec F S3x4x768 .f32) (d14 : Vec F S12x3x4x768 .f32) (d15 : Vec F S3x4x768 .f32) (xs0 : Vec F S12x7x768 .f32) (xs1 : Vec F S8x8x768 .f32) (hc1 : ¬k0_cond1 i = 1#1) (hc2 : ¬k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare d14 ∗ owns (c : Thread nD τ) arg17 fullShare d15 ∗ owns (c : Thread nD τ) arg18 fullShare xs0 ∗ owns (c : Thread nD τ) arg19 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (xt i xs1 xs0 x8) ∗ owns (c : Thread nD τ) arg15 fullShare (spt i xs1 x5 x9) ∗ owns (c : Thread nD τ) arg16 fullShare d14 ∗ owns (c : Thread nD τ) arg17 fullShare d15 ∗ owns (c : Thread nD τ) arg18 fullShare xs0 ∗ owns (c : Thread nD τ) arg19 fullShare xs1) -∗ K ⟨⟩))
      ⊢ wp frame (wpE (defs₀ (F := F)) Variants.none c none) E (cc0__tc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__tc_body_eq_skeleton]; unfold cc0__tc_body_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg19.eq_unread hf17; obtain rfl := harg18.eq_unread hf16
  sl_exec (disch := first | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    refine (View.read_writes_full _ _ _ _ _).trans ?_
    unfold xt
    refine congr (congr (congrArg k0_pay12 ?_) ?_) ?_
    · exact load_band harg19 i xs1 _
    · exact load_whole harg10 x8 _ _
    · exact load_whole harg18 xs0 _ _
  isplitl [H13]
  · iexists _; isplitr; swap; · iexact H13
    ipureintro
    refine (View.read_writes_full _ _ _ _ _).trans ?_
    unfold spt
    refine congr (congr (congrArg k0_pay1 ?_) ?_) ?_
    · exact load_band harg19 i xs1 _
    · exact congrArg k0_pay13 (load_whole harg7 x5 _ _)
    · exact load_whole harg11 x9 _ _
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  iexists _; isplitr; · ipureintro; exact hf17
  iexact H17

end Cert.KernelIdeal.Point

end
-- ==== Proof.KernelIdealRegion.lean ====
module

public import proofs.«01_k».proof.Proof.KernelIdealPointA
public import proofs.«01_k».proof.Proof.KernelIdealPointB
public import proofs.«01_k».proof.Proof.KernelIdealPointC
public import Idealize.ShloMosaic.Lib.Pipeline.TableIdle
public import Idealize.ShloMosaic.Lib.WordCmp
public import Idealize.ShloMosaic.Lib.Claim

@[expose] public section

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first branch is taken at the first point only. -/
theorem first_iff (t : Fin cfg0.N) : k0_cond1 (grid0.coords t) = 1#1 ↔ t.val = 0 := by
  have ht : t.val < 8 := Nat.lt_of_lt_of_eq t.isLt N_0
  have e0 : (grid0.coords t 0).val = t.val / 2 % 4 := Pipeline.Grid.coords_val t 0 (by decide) rfl
  have e1 : (grid0.coords t 1).val = t.val / 1 % 2 := Pipeline.Grid.coords_val t 1 (by decide) rfl
  have h : k0_cond1 (grid0.coords t) = 1#1 ↔ t.val % 8 = 0 := by
    simp only [k0_cond1, e0, e1]
    word_cmp
  rw [h]; omega

/-- The second branch is taken at every even point. -/
theorem second_iff (t : Fin cfg0.N) : k0_cond2 (grid0.coords t) = 1#1 ↔ t.val % 2 = 0 := by
  have ht : t.val < 8 := Nat.lt_of_lt_of_eq t.isLt N_0
  have e0 : (grid0.coords t 0).val = t.val / 2 % 4 := Pipeline.Grid.coords_val t 0 (by decide) rfl
  have e1 : (grid0.coords t 1).val = t.val / 1 % 2 := Pipeline.Grid.coords_val t 1 (by decide) rfl
  simp only [k0_cond2, e0, e1]
  word_cmp

/-- Every word of every months block names a row of the month table. -/
def InRange : Prop := ∀ (c : Dev nD) (t : Fin cfg0.N) (j : S4x12.Idx), (iblk m c 0 t j).toNat < 12

/-- The months array's words bound the blocks' words: a block is the whole array. -/
theorem inRange_of (h : ∀ (c : Dev nD) (j : S4x12.Idx), (m ((c : Thread nD τ).loc main_arg4) j).toNat < 12) : InRange m := by
  intro c t j
  unfold iblk
  rw [View.read_apply, cast_eq, show V m c (Pipeline.arrRef spec0 0) = m ((c : Thread nD τ).loc main_arg4) from V_main_arg4 m c]
  exact h c _

/-- The grid's first point. -/
def p0 : Fin cfg0.N := ⟨0, Nat.lt_of_lt_of_eq (by decide) N_0.symm⟩

/-- The point at which the embedding in use at point `n` was filled. -/
def fill (n : ℕ) (hn : n < cfg0.N) : Fin cfg0.N := ⟨n - n % 2, by omega⟩

/-- The spatial table from the first point on. -/
def sTab (c : Dev nD) : Vec F S8x8x768 .f32 := spat (iblk m c 1 p0)

/-- The embedding after point `n`. -/
def eTab (c : Dev nD) (n : ℕ) (hn : n < cfg0.N) : Vec F S12x7x768 .f32 :=
  emb (grid0.coords (fill n hn) 0) (iblk m c 0 (fill n hn)) (iblk m c 2 (fill n hn)) (iblk m c 3 (fill n hn)) (iblk m c 4 (fill n hn))

/-- Before the first point the scratch buffers hold anything; after point `n` the embedding and the spatial table. -/
def kept (c : Dev nD) : (n : ℕ) → n ≤ cfg0.N → sProp 𝕄
  | 0, _ => Pipeline.ΦA spec0 c
  | n + 1, hn => iprop(iprop(owns (c : Thread nD τ) (Memref.whole cc0_scratch0) fullShare (eTab m c n hn)
      ∗ owns (c : Thread nD τ) (Memref.whole cc0_scratch1) fullShare (sTab m c)) ∗ (∃ r, prngReg c r))

theorem kept_first (c : Dev nD) (n : ℕ) (h : n ≤ cfg0.N) (hz : n = 0) : kept m c n h = Pipeline.ΦA spec0 c := by
  subst hz; rfl

theorem kept_later (c : Dev nD) (n : ℕ) (h : n ≤ cfg0.N) (hz : n ≠ 0) :
    kept m c n h = iprop(iprop(owns (c : Thread nD τ) (Memref.whole cc0_scratch0) fullShare (eTab m c (n - 1) (by omega))
      ∗ owns (c : Thread nD τ) (Memref.whole cc0_scratch1) fullShare (sTab m c)) ∗ (∃ r, prngReg c r)) := by
  cases n with
  | zero => exact absurd rfl hz
  | succ n => rfl

/-- The scratch buffers at anything, one by one. -/
theorem scratch_any (c : Dev nD) : (Pipeline.ΦA spec0 c : sProp 𝕄)
    = iprop(iprop((∃ d, owns (c : Thread nD τ) (Memref.whole cc0_scratch0) fullShare d)
      ∗ (∃ d, owns (c : Thread nD τ) (Memref.whole cc0_scratch1) fullShare d)) ∗ (∃ r, prngReg c r)) := by
  unfold Pipeline.ΦA
  rw [scopedRest0_eq]
  simp only [owns_whole]
  try rfl

/-- The proof data of the launch on core `c`: after the body at point `t` each input's buffer holds its block, the
    first two results' buffers what the point computes, the last two what the first point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => xt (grid0.coords t) (sTab m c) (eTab m c t.val t.isLt) (iblk m c 8 t)
    | ⟨13, _⟩ => spt (grid0.coords t) (sTab m c) (iblk m c 5 t) (iblk m c 9 t)
    | ⟨14, _⟩ => tt (iblk m c 0 p0) (iblk m c 2 p0) (iblk m c 3 p0) (iblk m c 6 p0) (iblk m c 10 p0)
    | ⟨15, _⟩ => stt (iblk m c 7 p0) (iblk m c 11 p0)
    | ⟨_ + 16, h⟩ => absurd h (Nat.not_lt.2 (Nat.le_add_left _ _))
  Φ t := kept m c t.val (Nat.le_of_lt_succ t.isLt)
  q _ := fullShare
  owed _ := 0

theorem arrays_found (c : Dev nD) (w : Fin cfg0.W) : (dats m 0 c).A w = V m c (Pipeline.arrRef spec0 w) := by
  dsimp only [dats]

theorem kept_before (c : Dev nD) (t : Fin cfg0.N) : (dats m 0 c).Φ t.castSucc = kept m c t.val (Nat.le_of_lt t.isLt) := by
  dsimp only [dats]; exact Pipeline.Dat.Φ_castSucc (kept m c) t

theorem kept_after (c : Dev nD) (t : Fin cfg0.N) : (dats m 0 c).Φ t.succ
    = iprop(iprop(owns (c : Thread nD τ) (Memref.whole cc0_scratch0) fullShare (eTab m c t.val t.isLt)
      ∗ owns (c : Thread nD τ) (Memref.whole cc0_scratch1) fullShare (sTab m c)) ∗ (∃ r, prngReg c r)) := rfl

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = iblk m c 6 t := by dsimp only [dats]
theorem left_7 (c : Dev nD) (t : Fin cfg0.N) : (dats m 0 c).after 7 t = iblk m c 7 t := by dsimp only [dats]
theorem left_8 (c : Dev nD) (t : Fin cfg0.N) : (dats m 0 c).after 8 t = iblk m c 8 t := by dsimp only [dats]
theorem left_9 (c : Dev nD) (t : Fin cfg0.N) : (dats m 0 c).after 9 t = iblk m c 9 t := by dsimp only [dats]
theorem left_10 (c : Dev nD) (t : Fin cfg0.N) : (dats m 0 c).after 10 t = iblk m c 10 t := by dsimp only [dats]
theorem left_11 (c : Dev nD) (t : Fin cfg0.N) : (dats m 0 c).after 11 t = iblk m c 11 t := by dsimp only [dats]
theorem left_12 (c : Dev nD) (t : Fin cfg0.N) : (dats m 0 c).after 12 t = xt (grid0.coords t) (sTab m c) (eTab m c t.val t.isLt) (iblk m c 8 t) := by dsimp only [dats]
theorem left_13 (c : Dev nD) (t : Fin cfg0.N) : (dats m 0 c).after 13 t = spt (grid0.coords t) (sTab m c) (iblk m c 5 t) (iblk m c 9 t) := by dsimp only [dats]
theorem left_14 (c : Dev nD) (t : Fin cfg0.N) : (dats m 0 c).after 14 t = tt (iblk m c 0 p0) (iblk m c 2 p0) (iblk m c 3 p0) (iblk m c 6 p0) (iblk m c 10 p0) := by dsimp only [dats]
theorem left_15 (c : Dev nD) (t : Fin cfg0.N) : (dats m 0 c).after 15 t = stt (iblk m c 7 p0) (iblk m c 11 p0) := by dsimp only [dats]
theorem found_0 (c : Dev nD) (t : Fin cfg0.N) (d) : (dats m 0 c).before 0 t d = iblk m c 0 t :=
  before0_0_of m (dats m 0 c) (arrays_found m c 0) (left_0 m c) t d
theorem found_1 (c : Dev nD) (t : Fin cfg0.N) (d) : (dats m 0 c).before 1 t d = iblk m c 1 t :=
  before0_1_of m (dats m 0 c) (arrays_found m c 1) (left_1 m c) t d
theorem found_2 (c : Dev nD) (t : Fin cfg0.N) (d) : (dats m 0 c).before 2 t d = iblk m c 2 t :=
  before0_2_of m (dats m 0 c) (arrays_found m c 2) (left_2 m c) t d
theorem found_3 (c : Dev nD) (t : Fin cfg0.N) (d) : (dats m 0 c).before 3 t d = iblk m c 3 t :=
  before0_3_of m (dats m 0 c) (arrays_found m c 3) (left_3 m c) t d
theorem found_4 (c : Dev nD) (t : Fin cfg0.N) (d) : (dats m 0 c).before 4 t d = iblk m c 4 t :=
  before0_4_of m (dats m 0 c) (arrays_found m c 4) (left_4 m c) t d
theorem found_5 (c : Dev nD) (t : Fin cfg0.N) (d) : (dats m 0 c).before 5 t d = iblk m c 5 t :=
  before0_5_of m (dats m 0 c) (arrays_found m c 5) (left_5 m c) t d
theorem found_6 (c : Dev nD) (t : Fin cfg0.N) (d) : (dats m 0 c).before 6 t d = iblk m c 6 t :=
  before0_6_of m (dats m 0 c) (arrays_found m c 6) (left_6 m c) t d
theorem found_7 (c : Dev nD) (t : Fin cfg0.N) (d) : (dats m 0 c).before 7 t d = iblk m c 7 t :=
  before0_7_of m (dats m 0 c) (arrays_found m c 7) (left_7 m c) t d
theorem found_8 (c : Dev nD) (t : Fin cfg0.N) (d) : (dats m 0 c).before 8 t d = iblk m c 8 t :=
  before0_8_of m (dats m 0 c) (arrays_found m c 8) (left_8 m c) t d
theorem found_9 (c : Dev nD) (t : Fin cfg0.N) (d) : (dats m 0 c).before 9 t d = iblk m c 9 t :=
  before0_9_of m (dats m 0 c) (arrays_found m c 9) (left_9 m c) t d
theorem found_10 (c : Dev nD) (t : Fin cfg0.N) (d) : (dats m 0 c).before 10 t d = iblk m c 10 t :=
  before0_10_of m (dats m 0 c) (arrays_found m c 10) (left_10 m c) t d
theorem found_11 (c : Dev nD) (t : Fin cfg0.N) (d) : (dats m 0 c).before 11 t d = iblk m c 11 t :=
  before0_11_of m (dats m 0 c) (arrays_found m c 11) (left_11 m c) t d

/-- Window 14 is idle at every point but the first. -/
theorem idle_14 (t : Fin cfg0.N) : cfg0.idle 14 (cfg0.grid.coords t) = true ↔ t.val ≠ 0 := by
  show (!(k0_cond1 (grid0.coords t) == 1#1)) = true ↔ _
  rw [ne_eq, ← first_iff t]
  simp

/-- From the second point on window 14's buffer holds what the body stored. -/
theorem stored_14 : ∀ (n : ℕ) (hn : n < 8), n ≠ 0 → cfg0.fresh 14 n = false
  | 0, _, h => absurd rfl h
  | n + 1, hn, _ => by
    have hN : n < cfg0.N := Nat.lt_of_lt_of_eq (by omega) N_0.symm
    rw [Pipeline.Cfg.fresh_succ cfg0 14 n hN]
    have hf : (cfg0.win 14).flush ⟨n, hN⟩ = false := by
      rw [← Bool.not_eq_true, flush0_14]
      show ¬ n % 8 = 7
      omega
    rw [hf, Bool.false_or]
    by_cases h0 : n = 0
    · have : cfg0.idle 14 (cfg0.grid.coords ⟨n, hN⟩) = false := by
        rw [← Bool.not_eq_true, idle_14]
        exact fun h => h h0
      rw [this, Bool.false_and]
    · rw [stored_14 n (by omega) h0, Bool.and_false]

/-- From the second point on window 14's buffer holds, before the body, what the first point stored. -/
theorem found_14 (c : Dev nD) (t : Fin cfg0.N) (h : t.val ≠ 0) (d) : (dats m 0 c).before 14 t d = (dats m 0 c).after 14 t := by
  have ht : t.val < 8 := Nat.lt_of_lt_of_eq t.isLt N_0
  have e := (dats m 0 c).before_out_traj 14 rfl (fun _ _ => rfl) (fun t _ _ _ => by rw [left_14, left_14]) t.val t rfl d
  rw [e, stored_14 t.val ht h, if_neg Bool.false_ne_true, left_14, left_14]

/-- Window 15 is idle at every point but the first. -/
theorem idle_15 (t : Fin cfg0.N) : cfg0.idle 15 (cfg0.grid.coords t) = true ↔ t.val ≠ 0 := by
  show (!(k0_cond1 (grid0.coords t) == 1#1)) = true ↔ _
  rw [ne_eq, ← first_iff t]
  simp

/-- From the second point on window 15's buffer holds what the body stored. -/
theorem stored_15 : ∀ (n : ℕ) (hn : n < 8), n ≠ 0 → cfg0.fresh 15 n = false
  | 0, _, h => absurd rfl h
  | n + 1, hn, _ => by
    have hN : n < cfg0.N := Nat.lt_of_lt_of_eq (by omega) N_0.symm
    rw [Pipeline.Cfg.fresh_succ cfg0 15 n hN]
    have hf : (cfg0.win 15).flush ⟨n, hN⟩ = false := by
      rw [← Bool.not_eq_true, flush0_15]
      show ¬ n % 8 = 7
      omega
    rw [hf, Bool.false_or]
    by_cases h0 : n = 0
    · have : cfg0.idle 15 (cfg0.grid.coords ⟨n, hN⟩) = false := by
        rw [← Bool.not_eq_true, idle_15]
        exact fun h => h h0
      rw [this, Bool.false_and]
    · rw [stored_15 n (by omega) h0, Bool.and_false]

/-- From the second point on window 15's buffer holds, before the body, what the first point stored. -/
theorem found_15 (c : Dev nD) (t : Fin cfg0.N) (h : t.val ≠ 0) (d) : (dats m 0 c).before 15 t d = (dats m 0 c).after 15 t := by
  have ht : t.val < 8 := Nat.lt_of_lt_of_eq t.isLt N_0
  have e := (dats m 0 c).before_out_traj 15 rfl (fun _ _ => rfl) (fun t _ _ _ => by rw [left_15, left_15]) t.val t rfl d
  rw [e, stored_15 t.val ht h, if_neg Bool.false_ne_true, left_15, left_15]

/-- What the body is called with at point `t`, the windows one by one. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body hands back at point `t`. -/
def handedBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: one of the three cases applies. -/
theorem body_any (hm : InRange m) (c : Dev nD) (t : Fin cfg0.N) :
    handed m c t ⊢ wp frame (wpE (defs₀ (F := F)) Variants.none c none) Set.univ (bodyAt0 t) (fun _ => handedBack m c t) := by
  unfold handed handedBack bodyAt0
  simp only [found_0, found_1, found_2, found_3, found_4, found_5, found_6, found_7, found_8, found_9, found_10, found_11]
  rw [show (dats m 0 c).owesAt () t.succ = (dats m 0 c).owesAt () t.castSucc from rfl, kept_after,
    left_0, left_1, left_2, left_3, left_4, left_5, left_6, left_7, left_8, left_9, left_10, left_11]
  by_cases hz : t.val = 0
  · have he : t.val % 2 = 0 := by omega
    rw [kept_before m c t, kept_first m c _ _ hz, scratch_any]
    have et : t = p0 := Fin.ext hz
    have ef : fill t.val t.isLt = t := Fin.ext (show t.val - t.val % 2 = t.val by omega)
    rw [left_12, left_13, left_14, left_15, ← et]
    unfold sTab eTab
    rw [ef, ← et]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_A c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)  (hm c t) ((first_iff t).mpr hz) ((second_iff t).mpr he) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  by_cases he : t.val % 2 = 0
  · skip
    rw [kept_before m c t, kept_later m c _ _ hz]
    simp only [found_14 m c t hz, found_15 m c t hz]
    have ef : fill t.val t.isLt = t := Fin.ext (show t.val - t.val % 2 = t.val by omega)
    rw [left_12, left_13]
    rw [show eTab m c t.val t.isLt = emb (grid0.coords t 0) (iblk m c 0 t) (iblk m c 2 t) (iblk m c 3 t) (iblk m c 4 t) from by unfold eTab; rw [ef]]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_B c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).after 14 t) ((dats m 0 c).after 15 t) (sTab m c) (hm c t) (fun h => hz ((first_iff t).mp h)) ((second_iff t).mpr he) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexact H15
    isplitl [HS0]; · iexists _; iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · skip
    rw [kept_before m c t, kept_later m c _ _ hz]
    simp only [found_14 m c t hz, found_15 m c t hz]
    have ef : eTab m c (t.val - 1) (by omega) = eTab m c t.val t.isLt := by
      unfold eTab
      have : fill (t.val - 1) (by omega) = fill t.val t.isLt := Fin.ext (show t.val - 1 - (t.val - 1) % 2 = t.val - t.val % 2 by omega)
      rw [this]
    rw [left_12, left_13, ef]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_C c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).after 14 t) ((dats m 0 c).after 15 t) (eTab m c t.val t.isLt) (sTab m c)  (fun h => hz ((first_iff t).mp h)) (fun h => he ((second_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body's row of the table of bodies is the body at the point's buffers. -/
theorem row_body (t : Fin cfg0.N) : defs₀ (F := F) .tc cfg0.body (cfg0.bodyArgs t (cfg0.slots t)) = bodyAt0 t := by
  unfold defs₀; rw [Defs.onTc_tc]

/-- Window `w`'s buffer at what the proof data say is what the obligation asks of it, at a point where the window is not
    idle or where its buffer held that already. -/
theorem asked (c : Dev nD) (t : Fin cfg0.N) (w : Fin cfg0.W)
    (h : cfg0.idle w (cfg0.grid.coords t) = true → ∃ d, (dats m 0 c).before w t d = (dats m 0 c).after w t) :
    owns (c : Thread nD τ) ((cfg0.win w).stage (cfg0.slots t w)) fullShare ((dats m 0 c).after w t)
      ⊢ (match cfg0.idle w (cfg0.grid.coords t) with
        | true => match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t) : sProp 𝕄) := by
  generalize cfg0.idle w (cfg0.grid.coords t) = i at h ⊢
  generalize (cfg0.win w).flush t = f
  cases i
  · exact Idealize.SL.BI.Entails.refl (owns (c : Thread nD τ) ((cfg0.win w).stage (cfg0.slots t w)) fullShare ((dats m 0 c).after w t) : sProp 𝕄)
  · cases f
    · obtain ⟨d, e⟩ := h rfl
      rw [← e]
      iintro H
      iexists d
      iexact H
    · exact Idealize.SL.BI.Entails.refl (owns (c : Thread nD τ) ((cfg0.win w).stage (cfg0.slots t w)) fullShare ((dats m 0 c).after w t) : sProp 𝕄)

/-- Every window but the last two is live at every point. -/
theorem live (t : Fin cfg0.N) (w : Fin 16) (h : w.val < 14) : cfg0.idle w (cfg0.grid.coords t) = false := by
  match w, h with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl

set_option maxHeartbeats 800000 in
/-- The launch's obligation of the body, at every point. -/
theorem obligation (hm : InRange m) (c : Dev nD) : BodyObligation (dats (F := F) m 0 c) (defs₀ (F := F)) Variants.none () Set.univ := fun t => by
  rw [bigSep_W0, bigSep_W0, row_body]
  refine triple_restated (body_any m hm c t) rfl (Idealize.SL.BI.Entails.refl _) fun _ => ?_
  unfold handedBack
  have a : ∀ w : Fin 16, w.val < 14 → (cfg0.idle w (cfg0.grid.coords t) = true → ∃ d, (dats m 0 c).before w t d = (dats m 0 c).after w t) :=
    fun w h hi => absurd hi (by rw [live t w h]; exact Bool.false_ne_true)
  refine sep_mono (Idealize.SL.BI.Entails.refl _) (sep_mono (Idealize.SL.BI.Entails.refl _) ?_)
  refine sep_mono ?_ ?_
  · exact asked m c t 0 (a 0 (by decide))
  refine sep_mono ?_ ?_
  · exact asked m c t 1 (a 1 (by decide))
  refine sep_mono ?_ ?_
  · exact asked m c t 2 (a 2 (by decide))
  refine sep_mono ?_ ?_
  · exact asked m c t 3 (a 3 (by decide))
  refine sep_mono ?_ ?_
  · exact asked m c t 4 (a 4 (by decide))
  refine sep_mono ?_ ?_
  · exact asked m c t 5 (a 5 (by decide))
  refine sep_mono ?_ ?_
  · exact asked m c t 6 (a 6 (by decide))
  refine sep_mono ?_ ?_
  · exact asked m c t 7 (a 7 (by decide))
  refine sep_mono ?_ ?_
  · exact asked m c t 8 (a 8 (by decide))
  refine sep_mono ?_ ?_
  · exact asked m c t 9 (a 9 (by decide))
  refine sep_mono ?_ ?_
  · exact asked m c t 10 (a 10 (by decide))
  refine sep_mono ?_ ?_
  · exact asked m c t 11 (a 11 (by decide))
  refine sep_mono ?_ ?_
  · exact asked m c t 12 (a 12 (by decide))
  refine sep_mono ?_ ?_
  · exact asked m c t 13 (a 13 (by decide))
  refine sep_mono ?_ ?_
  · exact asked m c t 14 fun hi => ⟨(dats m 0 c).after 14 t, found_14 m c t ((idle_14 t).mp hi) _⟩
  exact asked m c t 15 fun hi => ⟨(dats m 0 c).after 15 t, found_15 m c t ((idle_15 t).mp hi) _⟩

/-- What the launch hands over is the invariant before the first point. -/
theorem enter (c : Dev nD) : Pipeline.ΦA spec0 c ⊢ (dats m 0 c).Φ 0 := by
  rw [show (dats m 0 c).Φ 0 = kept m c 0 (Nat.zero_le _) from rfl, kept_first m c 0 _ rfl]
  try exact Idealize.SL.BI.Entails.refl _

/-- After the last point the scratch buffers hold something. -/
theorem leave (c : Dev nD) : (dats m 0 c).Φ (Fin.last cfg0.N) ⊢ Pipeline.ΦA spec0 c := by
  have hN : cfg0.N = 8 := N_0
  rw [show (dats m 0 c).Φ (Fin.last cfg0.N) = kept m c cfg0.N le_rfl from rfl, kept_later m c _ _ (by omega), scratch_any]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- Every execution of the program ends, with every array as the proof data say and every counter at zero. -/
theorem launched (hm : InRange m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m hm c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_found m) (hin := enter m) (hout := leave m)

/-- Every execution ends with the argument arrays unchanged and every counter at zero. -/
theorem quiet (hm : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12))
      ∧ r.2.sem = fun _ => 0) :=
  θ_run_and (frame_of m ρ (dats m) (arrays_found m) ((θ_run defs _ _).mono (fun _ h => h.1) (launched m ρ hm)))
    ((θ_run defs _ _).mono (fun _ h => h.2) (launched m ρ hm))

end Cert.KernelIdeal.Point

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Range
public import proofs.«01_k».proof.Proof.KernelRegion
public import proofs.«01_k».proof.Proof.KernelIdealRegion
public import Idealize.ShloMosaic.Lib.Quiescent

@[expose] public section

noncomputable section

/-!
The frame claims of the three programs, and the claim that the ideal program is the kernel over the extended reals.
-/

namespace Cert.Frames

open Idealize.ShloMosaic Idealize.ShloMosaic.TcCoe Idealize.SL.Sem

/-- The kernel ends, leaves its arguments as they were and every counter at zero. -/
theorem kernel : Cert.quiescent_Kernel := fun m ρ h =>
  Cert.Kernel.Point.quiet m ρ (Cert.Kernel.Point.inRange_of m fun c j => (Cert.Range.decode (h c)).1 j)

/-- So does the kernel over the extended reals. -/
theorem kernelIdeal : Cert.quiescent_KernelIdeal := fun m ρ h =>
  Cert.KernelIdeal.Point.quiet m ρ (Cert.KernelIdeal.Point.inRange_of m fun c j => (Cert.Range.decode (h c)).1 j)

/-- So does the reference, from any arguments. -/
theorem reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- So does the reference from arguments in the range. -/
theorem reference_in_range : Cert.quiescent_ReferenceIdeal_pre_in_range := fun m ρ _ => reference m ρ trivial

/-- The two named constants are the values that the program's words stand for. -/
theorem preserves : Cert.preserves_Kernel_KernelIdeal :=
  ⟨IdealRules.named_const.statement Cert.KernelIdeal.κ "neg_ln1e4_48" .f32 0xBE447CBD#32 _ rfl,
    IdealRules.named_const.statement Cert.KernelIdeal.κ "half_pi" .f32 0x3FC90FDB#32 _ rfl⟩

end Cert.Frames

end
-- ==== Proof.Spec.lean ====
/- What the four results hold, as plain formulas: a token plus four bands of 192 lanes side by side, the last of them
   sines and cosines of a position. -/
module

public import Idealize.ShloMosaic.PureOps.Ideal
public import Idealize.ShloMosaic.Lib.Pointwise

@[expose] public section

set_option maxRecDepth 16384

noncomputable section

namespace Cert.Spec

open Idealize.ShloMosaic

/-- The month a word names, which is the word itself where it is below 12. -/
def month (w : BitVec 32) : Fin 12 := ⟨min w.toNat 11, by omega⟩

/-- A word turned into a float is its signed value. -/
theorem sitofp_eq {φ : FTy} {n : ℕ} (b : BitVec n) :
    FloatOps.sitofp (F := Ideal) φ b = ((b.toInt : ℝ) : EReal) := rfl

/-- The frequency of lane `k`: the lanes go through the 48 frequencies four times. -/
def freq (k : ℕ) : ℝ := ((10000 : ℝ) ^ (((k % 48 : ℕ) : ℝ) / 48))⁻¹

/-- The distance between two positions: patch size times sample distance, over ten. -/
def gap (a5 a6 : (⟨0, ![]⟩ : Shape).Idx → BitVec 32) : ℝ := ((a6 ix0).toInt : ℝ) * ((a5 ix0).toInt : ℝ) * (1 / 10)

/-- The phase of lane `k` at row `h` and column `w`: the column in the first 96 lanes, the row in the others, times
    the distance `g` between two positions, times the lane's frequency. -/
def phase (g : ℝ) (h w k : ℕ) : ℝ := (((if k < 96 then w else h : ℕ) : ℝ) * g) * freq k

/-- Lane `k` of the spatial code: 48 sines, then 48 cosines, of the column and then of the row. -/
def wave (g : ℝ) (h w k : ℕ) : ℝ := if k % 96 < 48 then Real.sin (phase g h w k) else Real.cos (phase g h w k)

/-- Four bands of 192 lanes side by side. -/
def bands (c p m s : Fin 192 → EReal) (l : Fin 768) : EReal :=
  if h : l.val < 192 then c ⟨l.val, h⟩
  else if h2 : l.val < 384 then p ⟨l.val - 192, by omega⟩
  else if h3 : l.val < 576 then m ⟨l.val - 384, by omega⟩
  else s ⟨l.val - 576, by have := l.isLt; omega⟩

/-- The exponential form of a frequency. -/
theorem exp_eq_freq (k : ℕ) :
    Real.exp (((k % 48 : ℕ) : ℝ) * (-((Real.log 10000) * (1 / 48)))) = freq k := by
  unfold freq
  rw [Real.rpow_def_of_pos (by norm_num), ← Real.exp_neg]
  congr 1
  ring

/-- A sine moved by nothing or by a quarter turn is the lane's sine or cosine. -/
theorem sin_shift (g : ℝ) (h w k : ℕ) :
    Real.sin (phase g h w k + (if k % 96 < 48 then 0 else (1 / 2) * Real.pi)) = wave g h w k := by
  unfold wave
  by_cases hk : k % 96 < 48
  · rw [if_pos hk, if_pos hk, add_zero]
  · rw [if_neg hk, if_neg hk, show (1 / 2) * Real.pi = Real.pi / 2 by ring, Real.sin_add_pi_div_two]

/-- Two halves of a sum of bands: the first three bands from one addend, the last from the other. -/
theorem add_halves (x : EReal) (c p m s : Fin 192 → EReal) (l : Fin 768) :
    x + bands c p m (fun _ => 0) l + bands (fun _ => 0) (fun _ => 0) (fun _ => 0) s l = x + bands c p m s l := by
  unfold bands
  by_cases h : l.val < 192
  · simp only [dif_pos h, add_zero]
  · by_cases h2 : l.val < 384
    · simp only [dif_neg h, dif_pos h2, add_zero]
    · by_cases h3 : l.val < 576
      · simp only [dif_neg h, dif_neg h2, dif_pos h3, add_zero]
      · simp only [dif_neg h, dif_neg h2, dif_neg h3, add_zero]

/-- The same, the first three bands given by an equation. -/
theorem add_halves_of (x z : EReal) (c p m s : Fin 192 → EReal) (l : Fin 768) (hz : z = bands c p m (fun _ => 0) l) :
    x + z + bands (fun _ => 0) (fun _ => 0) (fun _ => 0) s l = x + bands c p m s l := by
  rw [hz]
  exact add_halves x c p m s l

/-! ### The four results -/

/-- The first result, over batch, row, column, time, channel and lane. -/
def full0 (a0 : FVec Ideal ⟨6, ![4, 8, 8, 12, 7, 768]⟩ .f32) (a4 : IVec ⟨2, ![4, 12]⟩ 32) (a7 : FVec Ideal ⟨2, ![24, 192]⟩ .f32)
    (a8 : FVec Ideal ⟨2, ![12, 192]⟩ .f32) (a9 : FVec Ideal ⟨2, ![7, 192]⟩ .f32) (g : ℝ)
    (b : Fin 4) (h w : Fin 8) (t : Fin 12) (n : Fin 7) (l : Fin 768) : EReal :=
  a0 (ix6 b h w t n l) + bands (fun k => a9 (ix2 n k)) (fun k => a7 (ix2 (⟨t.val, by omega⟩ : Fin 24) k))
    (fun k => a8 (ix2 (month (a4 (ix2 b t))) k)) (fun k => ((wave g h.val w.val k.val : ℝ) : EReal)) l

/-- The second result, over batch, row, column, channel and lane. -/
def full1 (a1 : FVec Ideal ⟨5, ![4, 8, 8, 3, 768]⟩ .f32) (a10 : FVec Ideal ⟨2, ![3, 192]⟩ .f32) (g : ℝ)
    (b : Fin 4) (h w : Fin 8) (n : Fin 3) (l : Fin 768) : EReal :=
  a1 (ix5 b h w n l) + bands (fun k => a10 (ix2 n k)) (fun _ => 0) (fun _ => 0)
    (fun k => ((wave g h.val w.val k.val : ℝ) : EReal)) l

/-- The third result, over batch, time, channel and lane. -/
def full2 (a2 : FVec Ideal ⟨4, ![4, 12, 3, 768]⟩ .f32) (a4 : IVec ⟨2, ![4, 12]⟩ 32) (a7 : FVec Ideal ⟨2, ![24, 192]⟩ .f32)
    (a8 : FVec Ideal ⟨2, ![12, 192]⟩ .f32) (a11 : FVec Ideal ⟨2, ![3, 192]⟩ .f32)
    (b : Fin 4) (t : Fin 12) (n : Fin 3) (l : Fin 768) : EReal :=
  a2 (ix4 b t n l) + bands (fun k => a11 (ix2 n k)) (fun k => a7 (ix2 (⟨t.val, by omega⟩ : Fin 24) k))
    (fun k => a8 (ix2 (month (a4 (ix2 b t))) k)) (fun _ => 0) l

/-- The fourth result, over batch, channel and lane. -/
def full3 (a3 : FVec Ideal ⟨3, ![4, 3, 768]⟩ .f32) (a12 : FVec Ideal ⟨2, ![3, 192]⟩ .f32)
    (b : Fin 4) (n : Fin 3) (l : Fin 768) : EReal :=
  a3 (ix3 b n l) + bands (fun k => a12 (ix2 n k)) (fun _ => 0) (fun _ => 0) (fun _ => 0) l

end Cert.Spec

end
-- ==== Proof.KernelIdealSpatial.lean ====
/- The spatial table of the kernel, read at an index. -/
module

public import proofs.«01_k».proof.Proof.KernelIdealRows
public import proofs.«01_k».proof.Proof.Spec
public import Idealize.ShloMosaic.Lib.Pointwise
public import Idealize.ShloMosaic.PureOps.Ideal

@[expose] public section

set_option maxRecDepth 16384

noncomputable section

namespace Cert.KernelIdeal.Point

open Cert.KernelIdeal Cert.KernelIdeal.Gen
open Idealize.ShloMosaic Idealize.ShloMosaic.TcCoe Idealize.SL.Sem

/-- The lane's number within its half of 96 lanes. -/
theorem pay3_at (h w : Fin 8) (k : Fin 192) : k0_pay3 (ix3 h w k) = BitVec.ofNat 32 (k.val % 96) := by
  pointwise [k0_pay3]
  revert k
  decide +kernel

/-- The number of the lane's frequency. -/
theorem pay4_at (h w : Fin 8) (k : Fin 192) :
    k0_pay4 (F := Ideal) (ix3 h w k) = (((k.val % 48 : ℕ) : ℝ) : EReal) := by
  pointwise [k0_pay4]
  rw [pay3_at]
  have e : ∀ k : Fin 192, (Scalar.select
        (IntOp.andi
          (IntOp.xori
            (IntOp.cmpi CmpIPredicate.slt
              (IntOp.remsi ArithUnit.vector (BitVec.ofNat 32 (k.val % 96))
                (Scalar.select (Scalar.cmpi CmpIPredicate.eq 48#32 0#32) 1#32 48#32))
              0#32)
            (Scalar.cmpi CmpIPredicate.slt (Scalar.select (Scalar.cmpi CmpIPredicate.eq 48#32 0#32) 1#32 48#32) 0#32))
          (IntOp.cmpi CmpIPredicate.ne
            (IntOp.remsi ArithUnit.vector (BitVec.ofNat 32 (k.val % 96))
              (Scalar.select (Scalar.cmpi CmpIPredicate.eq 48#32 0#32) 1#32 48#32))
            0#32))
        (IntOp.addi
          (IntOp.remsi ArithUnit.vector (BitVec.ofNat 32 (k.val % 96))
            (Scalar.select (Scalar.cmpi CmpIPredicate.eq 48#32 0#32) 1#32 48#32))
          (Scalar.select (Scalar.cmpi CmpIPredicate.eq 48#32 0#32) 1#32 48#32))
        (IntOp.remsi ArithUnit.vector (BitVec.ofNat 32 (k.val % 96))
          (Scalar.select (Scalar.cmpi CmpIPredicate.eq 48#32 0#32) 1#32 48#32))).toInt = ((k.val % 48 : ℕ) : ℤ) := by
    decide +kernel
  rw [Spec.sitofp_eq, e k, Int.cast_natCast]

/-- The rate the frequencies' exponents fall by. -/
theorem rate : Named.named (F := Ideal) κ "neg_ln1e4_48" (φ := .f32) 0xBE447CBD#32
    = ((-((Real.log 10000) * (1 / 48)) : ℝ) : EReal) :=
  IdealRules.named_const.ideal_named_scalar _ _ _ _ rfl

/-- The quarter turn that makes a cosine of a sine. -/
theorem quarter : Named.named (F := Ideal) κ "half_pi" (φ := .f32) 0x3FC90FDB#32
    = (((1 / 2) * Real.pi : ℝ) : EReal) :=
  IdealRules.named_const.ideal_named_scalar _ _ _ _ rfl

/-- The rate, as it stands in every lane. -/
theorem pay5_at (h w : Fin 8) (k : Fin 192) :
    k0_pay5 (F := Ideal) (ix3 h w k) = ((-((Real.log 10000) * (1 / 48)) : ℝ) : EReal) := by
  rw [← rate]
  rfl

/-- The scaled position of a lane. -/
theorem pay2_at (g : ℝ) (h w : Fin 8) (k : Fin 192) :
    k0_pay2 (F := Ideal) ((g : ℝ) : EReal) (ix3 h w k)
      = ((((if k.val < 96 then w.val else h.val : ℕ) : ℝ) * g : ℝ) : EReal) := by
  pointwise [k0_pay2]
  have e : ∀ k : Fin 192, IntOp.cmpi CmpIPredicate.slt (BitVec.ofNat 32 k.val) 96#32 = if k.val < 96 then 1#1 else 0#1 := by
    decide +kernel
  have n : ∀ j : Fin 8, (BitVec.ofNat 32 j.val).toInt = (j.val : ℤ) := by decide +kernel
  rw [e k, Spec.sitofp_eq, Spec.sitofp_eq, n h, n w]
  by_cases hk : k.val < 96
  · rw [if_pos hk, if_pos hk, EReal.coe_mul]
    rfl
  · rw [if_neg hk, if_neg hk, EReal.coe_mul]
    rfl

/-- The spatial table: zeros in the first three bands, the sines and cosines in the last. -/
theorem spat_at (x1 : FVec Ideal S1 .f32) (g : ℝ) (e : x1 (ix1 0) = ((g : ℝ) : EReal)) (h w : Fin 8) (l : Fin 768) :
    spat (F := Ideal) x1 (ix3 h w l)
      = Spec.bands (fun _ => 0) (fun _ => 0) (fun _ => 0) (fun k => ((Spec.wave g h.val w.val k.val : ℝ) : EReal)) l := by
  unfold spat
  rw [e]
  pointwise [k0_pay6]
  unfold Spec.bands
  by_cases h3 : l.val < 576
  · rw [dif_pos h3]
    split
    · rfl
    · split
      · rfl
      · rfl
  · rw [dif_neg h3, dif_neg (by omega), dif_neg (by omega), dif_neg h3]
    have c : ∀ k : Fin 192, IntOp.cmpi CmpIPredicate.slt (BitVec.ofNat 32 (k.val % 96)) 48#32
        = if k.val % 96 < 48 then 1#1 else 0#1 := by decide +kernel
    generalize hk : (⟨l.val - 576, _⟩ : Fin 192) = k
    rw [pay2_at, pay3_at, pay4_at, pay5_at, c k, quarter, ← EReal.coe_mul, Ideal.exp_coe, Spec.exp_eq_freq, ← EReal.coe_mul]
    show _ = ((Spec.wave g h.val w.val k.val : ℝ) : EReal)
    rw [← Spec.sin_shift, ← Ideal.sin_coe]
    congr 1
    rw [EReal.coe_add]
    congr 1
    by_cases hk : k.val % 96 < 48
    · rw [if_pos hk, if_pos hk]
      rfl
    · rw [if_neg hk, if_neg hk]
      rfl

end Cert.KernelIdeal.Point
end
-- ==== Proof.KernelIdealBlocks.lean ====
/- The blocks the kernel stores, read at an index: a token plus four bands of lanes. -/
module

public import proofs.«01_k».proof.Proof.KernelIdealRows
public import proofs.«01_k».proof.Proof.Spec
public import Idealize.ShloMosaic.Lib.Pointwise
public import Idealize.ShloMosaic.Lib.Pipeline.Value
public import Idealize.ShloMosaic.PureOps.Ideal

@[expose] public section

set_option maxRecDepth 16384

noncomputable section

namespace Cert.KernelIdeal.Point

open Cert.KernelIdeal Cert.KernelIdeal.Gen
open Idealize.ShloMosaic Idealize.ShloMosaic.TcCoe Idealize.SL.Sem

/-- The fourth result's block: the channel's row in the first band. -/
theorem stt_at (x7 : FVec Ideal S3x192 .f32) (x11 : FVec Ideal S3x4x768 .f32) (g : Fin 3) (b : Fin 4) (l : Fin 768) :
    stt (F := Ideal) x7 x11 (ix3 g b l)
      = x11 (ix3 g b l) + Spec.bands (fun k => x7 (ix2 g k)) (fun _ => 0) (fun _ => 0) (fun _ => 0) l := by
  pointwise [stt, k0_pay10]
  unfold Spec.bands
  by_cases h : l.val < 192
  · rw [dif_pos h, dif_pos h]
  · rw [dif_neg h, dif_neg h]
    simp only [dite_eq_ite, ite_self]

/-- The second result's block: the channel's row in the first band, the spatial table added. -/
theorem spt_at (i : grid0.Coords) (s : FVec Ideal S8x8x768 .f32) (x5 : FVec Ideal S3x192 .f32)
    (x9 : FVec Ideal S1x4x3x8x768 .f32) (r : Fin 4) (g : Fin 3) (w : Fin 8) (l : Fin 768) (h : Fin 8)
    (hh : h.val = 4 * (i 1).val + r.val) :
    spt (F := Ideal) i s x5 x9 (ix5 0 r g w l)
      = x9 (ix5 0 r g w l) + Spec.bands (fun k => x5 (ix2 g k)) (fun _ => 0) (fun _ => 0) (fun _ => 0) l
        + s (ix3 h w l) := by
  pointwise [spt, k0_pay1, k0_pay13, band]
  rw [show (⟨4 * (i 1).val + r.val, _⟩ : Fin 8) = h from Fin.ext hh.symm]
  congr 2
  unfold Spec.bands
  by_cases hl : l.val < 192
  · rw [dif_pos hl, dif_pos hl]
  · rw [dif_neg hl, dif_neg hl]
    simp only [dite_eq_ite, ite_self]

/-- The 48 month rows, read at month `t` of batch row `b`. -/
theorem mon48_at (x0 : Vec Ideal S4x12 .i32) (x3 : FVec Ideal S12x192 .f32) (t : Fin 12) (b : Fin 4) (k : Fin 192)
    (n : Fin 48) (hn : n.val = t.val * 4 + b.val) :
    mon48 (F := Ideal) x0 x3 (ix2 n k) = x3 (ix2 (Spec.month (x0 (ix2 b t))) k) := by
  refine (concatenate_ofFn_unit_apply (t := S48x192) (s₁ := S1x192) 0
    (fun n : Fin 48 => row (F := Ideal) x3 (x0 (ix2 (⟨n.val % 4, by omega⟩ : Fin 4) (⟨n.val / 4, by omega⟩ : Fin 12))))
    _ rfl rfl (ix2 n k) n rfl (ix2 0 k) ?_).trans ?_
  · intro c hc
    match c with
    | ⟨0, _⟩ => exact absurd rfl hc
    | ⟨1, _⟩ => rfl
  · have hb : (⟨n.val % 4, by omega⟩ : Fin 4) = b := Fin.ext (by show n.val % 4 = b.val; omega)
    have ht : (⟨n.val / 4, by omega⟩ : Fin 12) = t := Fin.ext (by show n.val / 4 = t.val; omega)
    rw [hb, ht]
    rfl

/-- The twelve month rows of batch row `b`. -/
def mon12 (b : Fin 4) (x0 : Vec Ideal S4x12 .i32) (x3 : FVec Ideal S12x192 .f32) : FVec Ideal S12x192 .f32 :=
  fun i => x3 (ix2 (Spec.month (x0 (ix2 b (i 0)))) (i 1))

/-- Twelve month rows stacked. -/
theorem mon12_at (b : Fin 4) (x0 : Vec Ideal S4x12 .i32) (x3 : FVec Ideal S12x192 .f32) :
    concatenate S12x192 0 (⟨S1x192, row (F := Ideal) x3 (x0 (ix2 b 0))⟩ :: ⟨S1x192, row x3 (x0 (ix2 b 1))⟩ :: ⟨S1x192, row x3 (x0 (ix2 b 2))⟩ :: ⟨S1x192, row x3 (x0 (ix2 b 3))⟩ :: ⟨S1x192, row x3 (x0 (ix2 b 4))⟩ :: ⟨S1x192, row x3 (x0 (ix2 b 5))⟩ :: ⟨S1x192, row x3 (x0 (ix2 b 6))⟩ :: ⟨S1x192, row x3 (x0 (ix2 b 7))⟩ :: ⟨S1x192, row x3 (x0 (ix2 b 8))⟩ :: ⟨S1x192, row x3 (x0 (ix2 b 9))⟩ :: ⟨S1x192, row x3 (x0 (ix2 b 10))⟩ :: ⟨S1x192, row x3 (x0 (ix2 b 11))⟩ :: []) concatenates_S1x192_S1x192_S1x192_S1x192_S1x192_S1x192_S1x192_S1x192_S1x192_S1x192_S1x192_S1x192_S12x192_d0
      = mon12 b x0 x3 := by
  funext j
  idx_vars j
  refine (concatenate_ofFn_unit_apply (t := S12x192) (s₁ := S1x192) 0
    (fun n : Fin 12 => row (F := Ideal) x3 (x0 (ix2 b n)))
    _ rfl rfl _ j0 rfl (ix2 0 j1) ?_).trans rfl
  intro c hc
  match c with
  | ⟨0, _⟩ => exact absurd rfl hc
  | ⟨1, _⟩ => rfl

/-- Channel rows, position rows and month rows side by side, over months and channels. -/
def banded (v38 v87 : FVec Ideal S12x192 .f32) (v88 : FVec Ideal S7x192 .f32) : FVec Ideal S12x7x768 .f32 :=
  have v91 : FVec Ideal S12x7x192 .f32 := broadcastTo S12x7x192 (shapeCast S1x7x192 (shapeCast S1x7x192 v88 shapeCasts_S7x192_S1x7x192) shapeCasts_S1x7x192_S1x7x192) broadcasts_S1x7x192_S12x7x192
  have v94 : FVec Ideal S12x7x192 .f32 := broadcastTo S12x7x192 (shapeCast S12x1x192 (shapeCast S12x1x192 v38 shapeCasts_S12x192_S12x1x192) shapeCasts_S12x1x192_S12x1x192) broadcasts_S12x1x192_S12x7x192
  have v97 : FVec Ideal S12x7x192 .f32 := broadcastTo S12x7x192 (shapeCast S12x1x192 (shapeCast S12x1x192 v87 shapeCasts_S12x192_S12x1x192) shapeCasts_S12x1x192_S12x1x192) broadcasts_S12x1x192_S12x7x192
  have v98 : FVec Ideal S12x7x192 .f32 := broadcast S12x7x192 (Scalar.ofBits .f32 0x00000000#32)
  shapeCast S12x7x768 (concatenate S12x7x768 2 [⟨S12x7x192, v91⟩, ⟨S12x7x192, v94⟩, ⟨S12x7x192, v97⟩, ⟨S12x7x192, v98⟩] concatenates_S12x7x192_S12x7x192_S12x7x192_S12x7x192_S12x7x768_d2) shapeCasts_S12x7x768_S12x7x768

/-- The embedding of a batch row: channel, position and month, side by side. -/
theorem emb_at (b : Fin 4) (x0 : Vec Ideal S4x12 .i32) (x2 x3 : FVec Ideal S12x192 .f32) (x4 : FVec Ideal S7x192 .f32)
    (t : Fin 12) (g : Fin 7) (l : Fin 768) :
    emb (F := Ideal) b x0 x2 x3 x4 (ix3 t g l)
      = Spec.bands (fun k => x4 (ix2 g k)) (fun k => x2 (ix2 t k)) (fun k => x3 (ix2 (Spec.month (x0 (ix2 b t))) k))
          (fun _ => 0) l := by
  have e : emb (F := Ideal) b x0 x2 x3 x4 = banded (k0_pay8 x2) (mon12 b x0 x3) x4 := by
    rw [← mon12_at]
    rfl
  rw [e]
  pointwise [banded, k0_pay8, mon12]
  unfold Spec.bands
  by_cases h : l.val < 192
  · rw [dif_pos h, dif_pos h]
  · by_cases h2 : l.val < 384
    · rw [dif_neg h, dif_neg h, dif_pos (by omega), dif_pos h2]
    · by_cases h3 : l.val < 576
      · rw [dif_neg h, dif_neg h, dif_neg (by omega), dif_neg h2, dif_pos (by omega), dif_pos h3]
        rfl
      · rw [dif_neg h, dif_neg h, dif_neg (by omega), dif_neg h2, dif_neg (by omega), dif_neg h3]

/-- The first result's block: the batch row's embedding and the spatial table added to the token. -/
theorem xt_at (i : grid0.Coords) (s : FVec Ideal S8x8x768 .f32) (e : FVec Ideal S12x7x768 .f32)
    (x8 : FVec Ideal S1x4x12x7x8x768 .f32) (r : Fin 4) (t : Fin 12) (g : Fin 7) (w : Fin 8) (l : Fin 768) (h : Fin 8)
    (hh : h.val = 4 * (i 1).val + r.val) :
    xt (F := Ideal) i s e x8 (ix6 0 r t g w l) = x8 (ix6 0 r t g w l) + e (ix3 t g l) + s (ix3 h w l) := by
  pointwise [xt, k0_pay12, band]
  rw [show (⟨4 * (i 1).val + r.val, _⟩ : Fin 8) = h from Fin.ext hh.symm]

/-- The third result's block over any 48 month rows. -/
theorem pay9_at (x2 : FVec Ideal S12x192 .f32) (y : FVec Ideal S48x192 .f32) (x6 : FVec Ideal S3x192 .f32)
    (x10 : FVec Ideal S12x3x4x768 .f32) (t : Fin 12) (g : Fin 3) (b : Fin 4) (l : Fin 768) :
    k0_pay9 (F := Ideal) (k0_pay7 x2) y x6 x10 (ix4 t g b l)
      = x10 (ix4 t g b l) + Spec.bands (fun k => x6 (ix2 g k)) (fun k => x2 (ix2 t k))
          (fun k => y (ix2 ⟨t.val * 4 + b.val, by omega⟩ k)) (fun _ => 0) l := by
  pointwise [k0_pay9, k0_pay7]
  unfold Spec.bands
  by_cases h : l.val < 192
  · rw [dif_pos h, dif_pos h]
  · by_cases h2 : l.val < 384
    · rw [dif_neg h, dif_neg h, dif_pos (by omega), dif_pos h2]
    · by_cases h3 : l.val < 576
      · rw [dif_neg h, dif_neg h, dif_neg (by omega), dif_neg h2, dif_pos (by omega), dif_pos h3]
        rfl
      · rw [dif_neg h, dif_neg h, dif_neg (by omega), dif_neg h2, dif_neg (by omega), dif_neg h3]

/-- The third result's block: channel, position and month, side by side. -/
theorem tt_at (x0 : Vec Ideal S4x12 .i32) (x2 x3 : FVec Ideal S12x192 .f32) (x6 : FVec Ideal S3x192 .f32)
    (x10 : FVec Ideal S12x3x4x768 .f32) (t : Fin 12) (g : Fin 3) (b : Fin 4) (l : Fin 768) :
    tt (F := Ideal) x0 x2 x3 x6 x10 (ix4 t g b l)
      = x10 (ix4 t g b l) + Spec.bands (fun k => x6 (ix2 g k)) (fun k => x2 (ix2 t k))
          (fun k => x3 (ix2 (Spec.month (x0 (ix2 b t))) k)) (fun _ => 0) l := by
  unfold tt
  rw [pay9_at]
  congr 2
  exact funext fun k => mon48_at x0 x3 t b k _ rfl

end Cert.KernelIdeal.Point
end
-- ==== Proof.KernelIdealPlaces.lean ====
/- The arrays the launch leaves in the four result windows, read at an index. -/
module

public import proofs.«01_k».proof.Proof.KernelIdealRegion
public import proofs.«01_k».proof.Proof.KernelIdealSpatial
public import proofs.«01_k».proof.Proof.KernelIdealBlocks
public import Idealize.ShloMosaic.Lib.Pipeline.ValueKit

@[expose] public section

set_option maxRecDepth 16384

noncomputable section

namespace Cert.KernelIdeal.Point

open Cert.KernelIdeal Cert.KernelIdeal.Gen
open Idealize.ShloMosaic Idealize.ShloMosaic.TcCoe Idealize.SL.Sem

variable (m : (ℓ : Loc nD τ sig) → Buf (Elt Ideal) ℓ)

/-! Where the windows' blocks lie. -/

/-- Window 0 stays at the origin at each grid point. -/
theorem place_0 : ∀ t : Fin cfg0.N, win0_0.index t = ![0, 0] := (by decide +kernel : ∀ t : Fin grid0.N, _)
/-- Window 1 stays at the origin at each grid point. -/
theorem place_1 : ∀ t : Fin cfg0.N, win0_1.index t = ![0] := (by decide +kernel : ∀ t : Fin grid0.N, _)
/-- Window 2 stays at the origin at each grid point. -/
theorem place_2 : ∀ t : Fin cfg0.N, win0_2.index t = ![0, 0] := (by decide +kernel : ∀ t : Fin grid0.N, _)
/-- Window 3 stays at the origin at each grid point. -/
theorem place_3 : ∀ t : Fin cfg0.N, win0_3.index t = ![0, 0] := (by decide +kernel : ∀ t : Fin grid0.N, _)
/-- Window 4 stays at the origin at each grid point. -/
theorem place_4 : ∀ t : Fin cfg0.N, win0_4.index t = ![0, 0] := (by decide +kernel : ∀ t : Fin grid0.N, _)
/-- Window 5 stays at the origin at each grid point. -/
theorem place_5 : ∀ t : Fin cfg0.N, win0_5.index t = ![0, 0] := (by decide +kernel : ∀ t : Fin grid0.N, _)
/-- Window 6 stays at the origin at each grid point. -/
theorem place_6 : ∀ t : Fin cfg0.N, win0_6.index t = ![0, 0] := (by decide +kernel : ∀ t : Fin grid0.N, _)
/-- Window 7 stays at the origin at each grid point. -/
theorem place_7 : ∀ t : Fin cfg0.N, win0_7.index t = ![0, 0] := (by decide +kernel : ∀ t : Fin grid0.N, _)
/-- Window 10 stays at the origin at each grid point. -/
theorem place_10 : ∀ t : Fin cfg0.N, win0_10.index t = ![0, 0, 0, 0] := (by decide +kernel : ∀ t : Fin grid0.N, _)
/-- Window 11 stays at the origin at each grid point. -/
theorem place_11 : ∀ t : Fin cfg0.N, win0_11.index t = ![0, 0, 0] := (by decide +kernel : ∀ t : Fin grid0.N, _)
/-- Window 14 stays at the origin at each grid point. -/
theorem place_14 : ∀ t : Fin cfg0.N, win0_14.index t = ![0, 0, 0, 0] := (by decide +kernel : ∀ t : Fin grid0.N, _)
/-- Window 15 stays at the origin at each grid point. -/
theorem place_15 : ∀ t : Fin cfg0.N, win0_15.index t = ![0, 0, 0] := (by decide +kernel : ∀ t : Fin grid0.N, _)
/-- At each grid point window 8 is the block of the first token array named by the batch and the half of the rows. -/
theorem place_8 : ∀ t : Fin cfg0.N, win0_8.index t = ![(grid0.coords t 0).val, (grid0.coords t 1).val, 0, 0, 0, 0] := (by decide +kernel : ∀ t : Fin grid0.N, _)
/-- At each grid point window 9 is the block of the second token array named by the batch and the half of the rows. -/
theorem place_9 : ∀ t : Fin cfg0.N, win0_9.index t = ![(grid0.coords t 0).val, (grid0.coords t 1).val, 0, 0, 0] := (by decide +kernel : ∀ t : Fin grid0.N, _)
/-- At each grid point window 12 is the block of the first result named by the batch and the half of the rows. -/
theorem place_12 : ∀ t : Fin cfg0.N, win0_12.index t = ![(grid0.coords t 0).val, (grid0.coords t 1).val, 0, 0, 0, 0] := (by decide +kernel : ∀ t : Fin grid0.N, _)
/-- At each grid point window 13 is the block of the second result named by the batch and the half of the rows. -/
theorem place_13 : ∀ t : Fin cfg0.N, win0_13.index t = ![(grid0.coords t 0).val, (grid0.coords t 1).val, 0, 0, 0] := (by decide +kernel : ∀ t : Fin grid0.N, _)

/-! The blocks that are whole arrays. -/

/-- Window 0's block is the whole array: the months. -/
theorem block_0 (c : Dev nD) (t : Fin cfg0.N) : iblk m c 0 t = V m c main_arg4 := by
  funext y
  idx_vars y
  blk_simp [iblk]
  congr 1
  blk_ext [place_0 t]

/-- Window 1's block is the whole array: the ground sample distance. -/
theorem block_1 (c : Dev nD) (t : Fin cfg0.N) : iblk m c 1 t = V m c main_v4 := by
  funext y
  idx_vars y
  blk_simp [iblk]
  congr 1
  blk_ext [place_1 t]

/-- Window 2's block is the whole array: the twelve position rows. -/
theorem block_2 (c : Dev nD) (t : Fin cfg0.N) : iblk m c 2 t = V m c main_v10 := by
  funext y
  idx_vars y
  blk_simp [iblk]
  congr 1
  blk_ext [place_2 t]

/-- Window 3's block is the whole array: the month table. -/
theorem block_3 (c : Dev nD) (t : Fin cfg0.N) : iblk m c 3 t = V m c main_arg8 := by
  funext y
  idx_vars y
  blk_simp [iblk]
  congr 1
  blk_ext [place_3 t]

/-- Window 4's block is the whole array: the channel rows of the first result. -/
theorem block_4 (c : Dev nD) (t : Fin cfg0.N) : iblk m c 4 t = V m c main_arg9 := by
  funext y
  idx_vars y
  blk_simp [iblk]
  congr 1
  blk_ext [place_4 t]

/-- Window 5's block is the whole array: the channel rows of the second result. -/
theorem block_5 (c : Dev nD) (t : Fin cfg0.N) : iblk m c 5 t = V m c main_arg10 := by
  funext y
  idx_vars y
  blk_simp [iblk]
  congr 1
  blk_ext [place_5 t]

/-- Window 6's block is the whole array: the channel rows of the third result. -/
theorem block_6 (c : Dev nD) (t : Fin cfg0.N) : iblk m c 6 t = V m c main_arg11 := by
  funext y
  idx_vars y
  blk_simp [iblk]
  congr 1
  blk_ext [place_6 t]

/-- Window 7's block is the whole array: the channel rows of the fourth result. -/
theorem block_7 (c : Dev nD) (t : Fin cfg0.N) : iblk m c 7 t = V m c main_arg12 := by
  funext y
  idx_vars y
  blk_simp [iblk]
  congr 1
  blk_ext [place_7 t]

/-- Window 10's block is the whole array: the third token array, transposed. -/
theorem block_10 (c : Dev nD) (t : Fin cfg0.N) : iblk m c 10 t = V m c main_v7 := by
  funext y
  idx_vars y
  blk_simp [iblk]
  congr 1
  blk_ext [place_10 t]

/-- Window 11's block is the whole array: the fourth token array, transposed. -/
theorem block_11 (c : Dev nD) (t : Fin cfg0.N) : iblk m c 11 t = V m c main_v8 := by
  funext y
  idx_vars y
  blk_simp [iblk]
  congr 1
  blk_ext [place_11 t]

end Cert.KernelIdeal.Point
end
-- ==== Proof.KernelIdealArrays.lean ====
/- The arrays the launch leaves in the four result windows, read at an index. -/
module

public import proofs.«01_k».proof.Proof.KernelIdealPlaces

@[expose] public section

set_option maxRecDepth 16384

noncomputable section

namespace Cert.KernelIdeal.Point

open Cert.KernelIdeal Cert.KernelIdeal.Gen
open Idealize.ShloMosaic Idealize.ShloMosaic.TcCoe Idealize.SL.Sem

variable (m : (ℓ : Loc nD τ sig) → Buf (Elt Ideal) ℓ)

/-- The point in use when the embedding was filled has the same batch row. -/
theorem fill_row : ∀ t : Fin cfg0.N, grid0.coords (fill t.val t.isLt) 0 = grid0.coords t 0 :=
  (by decide +kernel : ∀ t : Fin grid0.N, grid0.coords (fill t.val t.isLt) 0 = grid0.coords t 0)

/-- The first result's window, of the arrays the launch reads. -/
def left0 (x : FVec Ideal S4x8x12x7x8x768 .f32) (ch : FVec Ideal S7x192 .f32) (pos mt : FVec Ideal S12x192 .f32)
    (mo : Vec Ideal S4x12 .i32) (g : ℝ) : FVec Ideal S4x8x12x7x8x768 .f32 := fun i =>
  x i + Spec.bands (fun k => ch (ix2 (i 3) k)) (fun k => pos (ix2 (i 2) k))
    (fun k => mt (ix2 (Spec.month (mo (ix2 (i 0) (i 2)))) k))
    (fun k => ((Spec.wave g (i 1).val (i 4).val k.val : ℝ) : EReal)) (i 5)

/-- The second result's window. -/
def left1 (x : FVec Ideal S4x8x3x8x768 .f32) (ch : FVec Ideal S3x192 .f32) (g : ℝ) : FVec Ideal S4x8x3x8x768 .f32 := fun i =>
  x i + Spec.bands (fun k => ch (ix2 (i 2) k)) (fun _ => 0) (fun _ => 0)
    (fun k => ((Spec.wave g (i 1).val (i 3).val k.val : ℝ) : EReal)) (i 4)

/-- The third result's window. -/
def left2 (x : FVec Ideal S12x3x4x768 .f32) (ch : FVec Ideal S3x192 .f32) (pos mt : FVec Ideal S12x192 .f32)
    (mo : Vec Ideal S4x12 .i32) : FVec Ideal S12x3x4x768 .f32 := fun i =>
  x i + Spec.bands (fun k => ch (ix2 (i 1) k)) (fun k => pos (ix2 (i 0) k))
    (fun k => mt (ix2 (Spec.month (mo (ix2 (i 2) (i 0)))) k)) (fun _ => 0) (i 3)

/-- The fourth result's window. -/
def left3 (x : FVec Ideal S3x4x768 .f32) (ch : FVec Ideal S3x192 .f32) : FVec Ideal S3x4x768 .f32 := fun i =>
  x i + Spec.bands (fun k => ch (ix2 (i 0) k)) (fun _ => 0) (fun _ => 0) (fun _ => 0) (i 2)

/-- The row of tokens a point's block row is. -/
def down (t : Fin cfg0.N) (r : Fin 4) : Fin 8 :=
  ⟨4 * (grid0.coords t 1).val + r.val, by
    have h1 : (grid0.coords t 1).val < 2 := (grid0.coords t 1).isLt
    omega⟩

/-- After the whole grid the fourth result's array is the one stated above. -/
theorem array_15 (c : Dev nD) : (dats m 0 c).arrAt 15 cfg0.N = left3 (V m c main_v8) (V m c main_arg12) := by
  refine (dats m 0 c).arrAt_eq_of_covers 15 _ (by decide +kernel) fun t hf y => ?_
  blk_simp
  rw [left_15, block_7, block_11]
  idx_vars y
  have p : ((View.whole main_v11_3).slice (win0_15.rect t)).emb (ix3 y0 y1 y2) = ix3 y0 y1 y2 := by
    blk_ext [place_15 t]
  rw [p, stt_at]
  rfl

/-- After the whole grid the third result's array is the one stated above. -/
theorem array_14 (c : Dev nD) : (dats m 0 c).arrAt 14 cfg0.N
    = left2 (V m c main_v7) (V m c main_arg11) (V m c main_v10) (V m c main_arg8) (V m c main_arg4) := by
  refine (dats m 0 c).arrAt_eq_of_covers 14 _ (by decide +kernel) fun t hf y => ?_
  blk_simp
  rw [left_14, block_0, block_2, block_3, block_6, block_10]
  idx_vars y
  have p : ((View.whole main_v11_2).slice (win0_14.rect t)).emb (ix4 y0 y1 y2 y3) = ix4 y0 y1 y2 y3 := by
    blk_ext [place_14 t]
  rw [p, tt_at]
  rfl

/-- After the whole grid the second result's array is the one stated above. -/
theorem array_13 (c : Dev nD) (g : ℝ) (e : V m c main_v4 (ix1 0) = ((g : ℝ) : EReal)) :
    (dats m 0 c).arrAt 13 cfg0.N = left1 (V m c main_v6) (V m c main_arg10) g := by
  refine (dats m 0 c).arrAt_eq_of_covers 13 _ (by decide +kernel) fun t hf y => ?_
  blk_simp
  rw [left_13, block_5]
  unfold sTab
  rw [block_1]
  idx_vars y
  obtain rfl : y0 = 0 := Subsingleton.elim _ _
  have p : ((View.whole main_v11_1).slice (win0_13.rect t)).emb (ix5 0 y1 y2 y3 y4)
      = ix5 (grid0.coords t 0) (down t y1) y2 y3 y4 := by
    blk_ext [place_13 t, down]
  have q : iblk m c 9 t (ix5 0 y1 y2 y3 y4) = V m c main_v6 (ix5 (grid0.coords t 0) (down t y1) y2 y3 y4) := by
    blk_simp [iblk]
    congr 1
    blk_ext [place_9 t, down]
  rw [p, spt_at _ _ _ _ y1 y2 y3 y4 (down t y1) rfl, q, spat_at _ g e]
  exact Spec.add_halves _ _ _ _ _ _

/-- After the whole grid the first result's array is the one stated above. -/
theorem array_12 (c : Dev nD) (g : ℝ) (e : V m c main_v4 (ix1 0) = ((g : ℝ) : EReal)) :
    (dats m 0 c).arrAt 12 cfg0.N
      = left0 (V m c main_v5) (V m c main_arg9) (V m c main_v10) (V m c main_arg8) (V m c main_arg4) g := by
  refine (dats m 0 c).arrAt_eq_of_covers 12 _ (by decide +kernel) fun t hf y => ?_
  blk_simp
  rw [left_12]
  unfold sTab eTab
  rw [block_1, block_0, block_2, block_3, block_4, fill_row]
  idx_vars y
  obtain rfl : y0 = 0 := Subsingleton.elim _ _
  have p : ((View.whole main_v11_0).slice (win0_12.rect t)).emb (ix6 0 y1 y2 y3 y4 y5)
      = ix6 (grid0.coords t 0) (down t y1) y2 y3 y4 y5 := by
    blk_ext [place_12 t, down]
  have q : iblk m c 8 t (ix6 0 y1 y2 y3 y4 y5) = V m c main_v5 (ix6 (grid0.coords t 0) (down t y1) y2 y3 y4 y5) := by
    blk_simp [iblk]
    congr 1
    blk_ext [place_8 t, down]
  rw [p, xt_at _ _ _ _ y1 y2 y3 y4 y5 (down t y1) rfl, q, spat_at _ g e]
  exact Spec.add_halves_of _ _ _ _ _ _ _
    (emb_at (grid0.coords t 0) (V m c main_arg4) (V m c main_v10) (V m c main_arg8) (V m c main_arg9) y2 y3 y5)

end Cert.KernelIdeal.Point
end
-- ==== Proof.KernelIdealHost.lean ====
/- The arrays the launch reads, and the program's results, as functions of the arguments and of the windows. -/
module

public import proofs.«01_k».proof.Proof.KernelIdealArrays

@[expose] public section

set_option maxRecDepth 16384

noncomputable section

namespace Cert.KernelIdeal.Point

open Cert.KernelIdeal Cert.KernelIdeal.Gen
open Idealize.ShloMosaic Idealize.ShloMosaic.TcCoe Idealize.SL.Sem

variable (m : (ℓ : Loc nD τ sig) → Buf (Elt Ideal) ℓ)

/-! ### Before the launch -/

/-- What the launch finds: the grid spacing. -/
theorem V_v4 (c : Dev nD) : V m c main_v4 = shapeCast S1 (Host.divf (mulf (sitofp (F := Ideal) .f32 (m ((c.tc).loc main_arg6))) (sitofp (F := Ideal) .f32 (m ((c.tc).loc main_arg5)))) (constant (F := Ideal) S_ .f32 0x41200000#32)) shapeCasts_S_S1 := by
  dsimp only [V, V0, hostOps0, List.flatten_cons, List.flatten_nil, List.append_nil, List.cons_append, List.nil_append]
  after_results
  rfl

/-- What the launch finds: the first token array, turned. -/
theorem V_v5 (c : Dev nD) : V m c main_v5 = transpose S4x8x12x7x8x768 [0, 1, 3, 4, 2, 5] (m ((c.tc).loc main_arg0)) transposes_S4x8x8x12x7x768_S4x8x12x7x8x768_0_1_3_4_2_5 := by
  dsimp only [V, V0, hostOps0, List.flatten_cons, List.flatten_nil, List.append_nil, List.cons_append, List.nil_append]
  after_results

/-- What the launch finds: the second token array, turned. -/
theorem V_v6 (c : Dev nD) : V m c main_v6 = transpose S4x8x3x8x768 [0, 1, 3, 2, 4] (m ((c.tc).loc main_arg1)) transposes_S4x8x8x3x768_S4x8x3x8x768_0_1_3_2_4 := by
  dsimp only [V, V0, hostOps0, List.flatten_cons, List.flatten_nil, List.append_nil, List.cons_append, List.nil_append]
  after_results

/-- What the launch finds: the third token array, turned. -/
theorem V_v7 (c : Dev nD) : V m c main_v7 = transpose S12x3x4x768 [1, 2, 0, 3] (m ((c.tc).loc main_arg2)) transposes_S4x12x3x768_S12x3x4x768_1_2_0_3 := by
  dsimp only [V, V0, hostOps0, List.flatten_cons, List.flatten_nil, List.append_nil, List.cons_append, List.nil_append]
  after_results

/-- What the launch finds: the fourth token array, turned. -/
theorem V_v8 (c : Dev nD) : V m c main_v8 = transpose S3x4x768 [1, 0, 2] (m ((c.tc).loc main_arg3)) transposes_S4x3x768_S3x4x768_1_0_2 := by
  dsimp only [V, V0, hostOps0, List.flatten_cons, List.flatten_nil, List.append_nil, List.cons_append, List.nil_append]
  after_results

/-- What the launch finds: the first twelve rows of the position table. -/
theorem V_v10 (c : Dev nD) : V m c main_v10 = extractStridedSlice S12x192 ![0, 0] (m ((c.tc).loc main_arg7)) slices_S24x192_S12x192_0_0 := by
  dsimp only [V, V0, hostOps0, List.flatten_cons, List.flatten_nil, List.append_nil, List.cons_append, List.nil_append]
  after_results

/-! ### After the launch -/

/-- No two windows share an array. -/
theorem arrays_apart : Function.Injective (Pipeline.arrRef cfg0.spec) := by decide

/-- The result `main_v12` is window 12's array, turned back. -/
theorem tail_v12 (c : Dev nD) :
    Pipeline.afterTail₀ cfgs (dats m) 0 (V0 m) [hostOps1] c main_v12 = transpose S4x8x8x12x7x768 [0, 1, 4, 2, 3, 5] ((dats m 0 c).arrAt 12 cfg0.N) transposes_S4x8x12x7x8x768_S4x8x8x12x7x768_0_1_4_2_3_5 := by
  dsimp only [Pipeline.afterTail₀, hostOps1, List.flatten_cons, List.flatten_nil, List.append_nil, List.cons_append, List.nil_append]
  after_results
  exact congrArg (fun x => transpose S4x8x8x12x7x768 [0, 1, 4, 2, 3, 5] (x) transposes_S4x8x12x7x8x768_S4x8x8x12x7x768_0_1_4_2_3_5) (Pipeline.withArrays_arr cfg0.spec arrays_apart c _ _ 12)

/-- The result `main_v13` is window 13's array, turned back. -/
theorem tail_v13 (c : Dev nD) :
    Pipeline.afterTail₀ cfgs (dats m) 0 (V0 m) [hostOps1] c main_v13 = transpose S4x8x8x3x768 [0, 1, 3, 2, 4] ((dats m 0 c).arrAt 13 cfg0.N) transposes_S4x8x3x8x768_S4x8x8x3x768_0_1_3_2_4 := by
  dsimp only [Pipeline.afterTail₀, hostOps1, List.flatten_cons, List.flatten_nil, List.append_nil, List.cons_append, List.nil_append]
  after_results
  exact congrArg (fun x => transpose S4x8x8x3x768 [0, 1, 3, 2, 4] (x) transposes_S4x8x3x8x768_S4x8x8x3x768_0_1_3_2_4) (Pipeline.withArrays_arr cfg0.spec arrays_apart c _ _ 13)

/-- The result `main_v14` is window 14's array, turned back. -/
theorem tail_v14 (c : Dev nD) :
    Pipeline.afterTail₀ cfgs (dats m) 0 (V0 m) [hostOps1] c main_v14 = transpose S4x12x3x768 [2, 0, 1, 3] ((dats m 0 c).arrAt 14 cfg0.N) transposes_S12x3x4x768_S4x12x3x768_2_0_1_3 := by
  dsimp only [Pipeline.afterTail₀, hostOps1, List.flatten_cons, List.flatten_nil, List.append_nil, List.cons_append, List.nil_append]
  after_results
  exact congrArg (fun x => transpose S4x12x3x768 [2, 0, 1, 3] (x) transposes_S12x3x4x768_S4x12x3x768_2_0_1_3) (Pipeline.withArrays_arr cfg0.spec arrays_apart c _ _ 14)

/-- The result `main_v15` is window 15's array, turned back. -/
theorem tail_v15 (c : Dev nD) :
    Pipeline.afterTail₀ cfgs (dats m) 0 (V0 m) [hostOps1] c main_v15 = transpose S4x3x768 [1, 0, 2] ((dats m 0 c).arrAt 15 cfg0.N) transposes_S3x4x768_S4x3x768_1_0_2 := by
  dsimp only [Pipeline.afterTail₀, hostOps1, List.flatten_cons, List.flatten_nil, List.append_nil, List.cons_append, List.nil_append]
  after_results
  exact congrArg (fun x => transpose S4x3x768 [1, 0, 2] (x) transposes_S3x4x768_S4x3x768_1_0_2) (Pipeline.withArrays_arr cfg0.spec arrays_apart c _ _ 15)

end Cert.KernelIdeal.Point
end
-- ==== Proof.Consts.lean ====
/- The float constants the programs spell, as the reals they denote. -/
module

public import Idealize.ShloMosaic.PureOps.Ideal

@[expose] public section

noncomputable section

namespace Cert.Consts

open Idealize.ShloMosaic

/-- The pattern of `10.0`, which the ground sample distance is divided by. -/
theorem ten : Ideal.ofBits .f32 0x41200000#32 = ((10 : ℝ) : EReal) := by
  simp [Ideal.ofBits, Ideal.ieee, -EReal.coe_mul]; norm_num

/-- The pattern of `10000.0`, the base of the frequencies. -/
theorem tenThousand : Ideal.ofBits .f32 0x461C4000#32 = ((10000 : ℝ) : EReal) := by
  simp [Ideal.ofBits, Ideal.ieee, -EReal.coe_mul]; norm_num

/-- The pattern of `48.0`, the number of frequencies. -/
theorem fortyEight : Ideal.ofBits .f32 0x42400000#32 = ((48 : ℝ) : EReal) := by
  simp [Ideal.ofBits, Ideal.ieee, -EReal.coe_mul]; norm_num

end Cert.Consts

end
-- ==== Proof.KernelIdealResults.lean ====
/- The program's four results, read at an index, as plain formulas of the arguments. -/
module

public import proofs.«01_k».proof.Proof.KernelIdealHost
public import proofs.«01_k».proof.Proof.Consts

@[expose] public section

set_option maxRecDepth 16384

noncomputable section

namespace Cert.KernelIdeal.Point

open Cert.KernelIdeal Cert.KernelIdeal.Gen
open Idealize.ShloMosaic Idealize.ShloMosaic.TcCoe Idealize.SL.Sem

/-! ### The lines around the launch, over plain arrays -/

/-- The grid spacing the launch reads is the distance between two positions. -/
theorem spacing_at (a5 a6 : IVec S_ 32) :
    shapeCast S1 (Host.divf (mulf (sitofp (F := Ideal) .f32 a6) (sitofp (F := Ideal) .f32 a5))
      (constant (F := Ideal) S_ .f32 0x41200000#32)) shapeCasts_S_S1 (ix1 0) = ((Spec.gap a5 a6 : ℝ) : EReal) := by
  pointwise
  rw [Consts.ten, Spec.sitofp_eq, Spec.sitofp_eq, ← EReal.coe_mul, Ideal.div_coe (by norm_num), ← EReal.coe_mul]
  rfl

/-- The first result: the transposes before and after the launch undo each other. -/
theorem turned0 (a0 : FVec Ideal S4x8x8x12x7x768 .f32) (a4 : IVec S4x12 32) (a7 : FVec Ideal S24x192 .f32)
    (a8 : FVec Ideal S12x192 .f32) (a9 : FVec Ideal S7x192 .f32) (g : ℝ)
    (b : Fin 4) (h w : Fin 8) (t : Fin 12) (n : Fin 7) (l : Fin 768) :
    transpose S4x8x8x12x7x768 [0, 1, 4, 2, 3, 5]
      (left0 (transpose S4x8x12x7x8x768 [0, 1, 3, 4, 2, 5] a0 transposes_S4x8x8x12x7x768_S4x8x12x7x8x768_0_1_3_4_2_5)
        a9 (extractStridedSlice S12x192 ![0, 0] a7 slices_S24x192_S12x192_0_0) a8 a4 g)
      transposes_S4x8x12x7x8x768_S4x8x8x12x7x768_0_1_4_2_3_5 (ix6 b h w t n l)
      = Spec.full0 a0 a4 a7 a8 a9 g b h w t n l := by
  pointwise [left0]
  rfl

/-- The second result: the transposes before and after the launch undo each other. -/
theorem turned1 (a1 : FVec Ideal S4x8x8x3x768 .f32) (a10 : FVec Ideal S3x192 .f32) (g : ℝ)
    (b : Fin 4) (h w : Fin 8) (n : Fin 3) (l : Fin 768) :
    transpose S4x8x8x3x768 [0, 1, 3, 2, 4]
      (left1 (transpose S4x8x3x8x768 [0, 1, 3, 2, 4] a1 transposes_S4x8x8x3x768_S4x8x3x8x768_0_1_3_2_4) a10 g)
      transposes_S4x8x3x8x768_S4x8x8x3x768_0_1_3_2_4 (ix5 b h w n l)
      = Spec.full1 a1 a10 g b h w n l := by
  pointwise [left1]
  rfl

/-- The third result: the transposes before and after the launch undo each other. -/
theorem turned2 (a2 : FVec Ideal S4x12x3x768 .f32) (a4 : IVec S4x12 32) (a7 : FVec Ideal S24x192 .f32)
    (a8 : FVec Ideal S12x192 .f32) (a11 : FVec Ideal S3x192 .f32)
    (b : Fin 4) (t : Fin 12) (n : Fin 3) (l : Fin 768) :
    transpose S4x12x3x768 [2, 0, 1, 3]
      (left2 (transpose S12x3x4x768 [1, 2, 0, 3] a2 transposes_S4x12x3x768_S12x3x4x768_1_2_0_3)
        a11 (extractStridedSlice S12x192 ![0, 0] a7 slices_S24x192_S12x192_0_0) a8 a4)
      transposes_S12x3x4x768_S4x12x3x768_2_0_1_3 (ix4 b t n l)
      = Spec.full2 a2 a4 a7 a8 a11 b t n l := by
  pointwise [left2]
  rfl

/-- The fourth result: the transposes before and after the launch undo each other. -/
theorem turned3 (a3 : FVec Ideal S4x3x768 .f32) (a12 : FVec Ideal S3x192 .f32) (b : Fin 4) (n : Fin 3) (l : Fin 768) :
    transpose S4x3x768 [1, 0, 2]
      (left3 (transpose S3x4x768 [1, 0, 2] a3 transposes_S4x3x768_S3x4x768_1_0_2) a12)
      transposes_S3x4x768_S4x3x768_1_0_2 (ix3 b n l)
      = Spec.full3 a3 a12 b n l := by
  pointwise [left3]
  rfl

/-! ### The results -/

variable (m : (ℓ : Loc nD τ sig) → Buf (Elt Ideal) ℓ)

/-- The spacing the launch finds. -/
theorem spacing (c : Dev nD) : V m c main_v4 (ix1 0)
    = ((Spec.gap (m ((c.tc).loc main_arg5)) (m ((c.tc).loc main_arg6)) : ℝ) : EReal) := by
  rw [V_v4]
  exact spacing_at _ _

/-- The first result. -/
theorem result0 (c : Dev nD) (b : Fin 4) (h w : Fin 8) (t : Fin 12) (n : Fin 7) (l : Fin 768) :
    Pipeline.afterTail₀ cfgs (dats m) 0 (V0 m) [hostOps1] c main_v12 (ix6 b h w t n l)
      = Spec.full0 (m ((c.tc).loc main_arg0)) (m ((c.tc).loc main_arg4)) (m ((c.tc).loc main_arg7))
          (m ((c.tc).loc main_arg8)) (m ((c.tc).loc main_arg9))
          (Spec.gap (m ((c.tc).loc main_arg5)) (m ((c.tc).loc main_arg6))) b h w t n l := by
  rw [tail_v12, array_12 m c _ (spacing m c), V_v5, V_v10, V_main_arg4, V_main_arg8, V_main_arg9]
  exact turned0 _ _ _ _ _ _ b h w t n l

/-- The second result. -/
theorem result1 (c : Dev nD) (b : Fin 4) (h w : Fin 8) (n : Fin 3) (l : Fin 768) :
    Pipeline.afterTail₀ cfgs (dats m) 0 (V0 m) [hostOps1] c main_v13 (ix5 b h w n l)
      = Spec.full1 (m ((c.tc).loc main_arg1)) (m ((c.tc).loc main_arg10))
          (Spec.gap (m ((c.tc).loc main_arg5)) (m ((c.tc).loc main_arg6))) b h w n l := by
  rw [tail_v13, array_13 m c _ (spacing m c), V_v6, V_main_arg10]
  exact turned1 _ _ _ b h w n l

/-- The third result. -/
theorem result2 (c : Dev nD) (b : Fin 4) (t : Fin 12) (n : Fin 3) (l : Fin 768) :
    Pipeline.afterTail₀ cfgs (dats m) 0 (V0 m) [hostOps1] c main_v14 (ix4 b t n l)
      = Spec.full2 (m ((c.tc).loc main_arg2)) (m ((c.tc).loc main_arg4)) (m ((c.tc).loc main_arg7))
          (m ((c.tc).loc main_arg8)) (m ((c.tc).loc main_arg11)) b t n l := by
  rw [tail_v14, array_14, V_v7, V_v10, V_main_arg4, V_main_arg8, V_main_arg11]
  exact turned2 _ _ _ _ _ b t n l

/-- The fourth result. -/
theorem result3 (c : Dev nD) (b : Fin 4) (n : Fin 3) (l : Fin 768) :
    Pipeline.afterTail₀ cfgs (dats m) 0 (V0 m) [hostOps1] c main_v15 (ix3 b n l)
      = Spec.full3 (m ((c.tc).loc main_arg3)) (m ((c.tc).loc main_arg12)) b n l := by
  rw [tail_v15, array_15, V_v8, V_main_arg12]
  exact turned3 _ _ b n l

end Cert.KernelIdeal.Point
end
-- ==== Proof.KernelIdealRun.lean ====
/- The kernel's run: each result is what the lines after the launch make of its window, and the arguments stay as they
   were. -/
module

public import proofs.«01_k».proof.Proof.KernelIdealRegion
public import proofs.«01_k».proof.Proof.KernelIdealResults

@[expose] public section

set_option maxRecDepth 16384

noncomputable section

namespace Cert.KernelIdeal.Point

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every execution ends with the four results and the arguments as they were. -/
theorem run_whole (hm : InRange m) : θ_run defs (onTc (τ := τ) (main (F := Ideal))) ⟨m, fun _ => 0, ρ⟩ fun r => ∀ c : Dev nD,
      r.2.mem ((c.tc : Thread nD τ).loc main_v12) = Pipeline.afterTail₀ cfgs (dats m) 0 (V0 m) [hostOps1] c main_v12
      ∧ r.2.mem ((c.tc : Thread nD τ).loc main_v13) = Pipeline.afterTail₀ cfgs (dats m) 0 (V0 m) [hostOps1] c main_v13
      ∧ r.2.mem ((c.tc : Thread nD τ).loc main_v14) = Pipeline.afterTail₀ cfgs (dats m) 0 (V0 m) [hostOps1] c main_v14
      ∧ r.2.mem ((c.tc : Thread nD τ).loc main_v15) = Pipeline.afterTail₀ cfgs (dats m) 0 (V0 m) [hostOps1] c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h.1.1 c).2 main_v12 (Pipeline.mem_restRefs_of main_v12 (by decide) (by decide)),
        (h.1.1 c).2 main_v13 (Pipeline.mem_restRefs_of main_v13 (by decide) (by decide)),
        (h.1.1 c).2 main_v14 (Pipeline.mem_restRefs_of main_v14 (by decide) (by decide)),
        (h.1.1 c).2 main_v15 (Pipeline.mem_restRefs_of main_v15 (by decide) (by decide)), h.2.1 c⟩)
    (θ_run_and (launched m ρ hm) (quiet m ρ hm))

end Cert.KernelIdeal.Point
end
-- ==== Proof.ReferenceSpatial.lean ====
/- The reference's spatial code: sines and cosines of each position's column and row. -/
module

public import proofs.«01_k».proof.Proof.Gen.ReferenceIdeal
public import proofs.«01_k».proof.Proof.Spec
public import proofs.«01_k».proof.Proof.Consts
public import Idealize.ShloMosaic.Lib.Pointwise

@[expose] public section

set_option maxRecDepth 16384

noncomputable section

namespace Cert.ReferenceIdeal.Terms

open Cert.ReferenceIdeal Cert.ReferenceIdeal.Gen
open Idealize.ShloMosaic Idealize.ShloMosaic.TcCoe Idealize.SL.Sem

/-- The 48 frequencies. -/
def rates : FVec Ideal S48 .f32 :=
  (Host.divf (broadcastInDim S48 ![] bcast_S_S48 (constant S_ .f32 0x3F800000#32)) (Host.powf (broadcastInDim S48 ![] bcast_S_S48 (constant S_ .f32 0x461C4000#32)) (Host.divf (sitofp .f32 (iotaInDim S48 32 0)) (broadcastInDim S48 ![] bcast_S_S48 (constant S_ .f32 0x42400000#32)))))

/-- The coordinates, columns and then rows, times the distance between two positions. -/
def places (a5 a6 : IVec S_ 32) : FVec Ideal S2x4x8x8 .f32 :=
  (mulf (broadcastInDim S2x4x8x8 ![0, 1, 2, 3] bcast_S2x1x8x8_S2x4x8x8_0_1_2_3 (broadcastInDim S2x1x8x8 ![0, 2, 3] bcast_S2x8x8_S2x1x8x8_0_2_3 (concatenate S2x8x8 0 [⟨S1x8x8, (broadcastInDim S1x8x8 ![1, 2] bcast_S8x8_S1x8x8_1_2 (broadcastInDim S8x8 ![1] bcast_S8_S8x8_1 (sitofp .f32 (iotaInDim S8 32 0))))⟩, ⟨S1x8x8, (broadcastInDim S1x8x8 ![1, 2] bcast_S8x8_S1x8x8_1_2 (broadcastInDim S8x8 ![0] bcast_S8_S8x8_0 (sitofp .f32 (iotaInDim S8 32 0))))⟩] concatenates_S1x8x8_S1x8x8_S2x8x8_d0))) (broadcastInDim S2x4x8x8 ![0, 1, 2, 3] bcast_S1x4x1x1_S2x4x8x8_0_1_2_3 (broadcastInDim S1x4x1x1 ![1] bcast_S4_S1x4x1x1_1 (mulf (broadcastInDim S4 ![] bcast_S_S4 (constant S_ .f32 0x3F800000#32)) (broadcastInDim S4 ![] bcast_S_S4 (id (Host.divf (sitofp .f32 (muli a6 a5)) (constant S_ .f32 0x41200000#32))))))))

/-- A position's column times each frequency. -/
def angles0 (a5 a6 : IVec S_ 32) : FVec Ideal S256x48 .f32 :=
  (mulf (broadcastInDim S256x48 ![0, 1] bcast_S256x1_S256x48_0_1 (broadcastInDim S256x1 ![0] bcast_S256_S256x1_0 (shapeCast _ (shapeCast _ (extractStridedSlice S1x4x8x8 ![0, 0, 0, 0] (places a5 a6) slices_S2x4x8x8_S1x4x8x8_0_0_0_0) shapeCasts_S1x4x8x8_S4x8x8) shapeCasts_S4x8x8_S256))) (broadcastInDim S256x48 ![0, 1] bcast_S1x48_S256x48_0_1 (broadcastInDim S1x48 ![1] bcast_S48_S1x48_1 rates)))

/-- A position's row times each frequency. -/
def angles1 (a5 a6 : IVec S_ 32) : FVec Ideal S256x48 .f32 :=
  (mulf (broadcastInDim S256x48 ![0, 1] bcast_S256x1_S256x48_0_1 (broadcastInDim S256x1 ![0] bcast_S256_S256x1_0 (shapeCast _ (shapeCast _ (extractStridedSlice S1x4x8x8 ![1, 0, 0, 0] (places a5 a6) slices_S2x4x8x8_S1x4x8x8_1_0_0_0) shapeCasts_S1x4x8x8_S4x8x8) shapeCasts_S4x8x8_S256))) (broadcastInDim S256x48 ![0, 1] bcast_S1x48_S256x48_0_1 (broadcastInDim S1x48 ![1] bcast_S48_S1x48_1 rates)))

/-- The spatial code over batch, row and column. -/
def spatial (a5 a6 : IVec S_ 32) : FVec Ideal S4x8x8x192 .f32 :=
  (shapeCast _ (shapeCast _ (concatenate S256x192 1 [⟨S256x96, (concatenate S256x96 1 [⟨S256x48, (Host.sin (angles0 a5 a6))⟩, ⟨S256x48, (Host.cos (angles0 a5 a6))⟩] concatenates_S256x48_S256x48_S256x96_d1)⟩, ⟨S256x96, (concatenate S256x96 1 [⟨S256x48, (Host.sin (angles1 a5 a6))⟩, ⟨S256x48, (Host.cos (angles1 a5 a6))⟩] concatenates_S256x48_S256x48_S256x96_d1)⟩] concatenates_S256x96_S256x96_S256x192_d1) shapeCasts_S256x192_S4x64x192) shapeCasts_S4x64x192_S4x8x8x192)

/-- The 48 frequencies, read at a lane. -/
theorem rates_at (k : Fin 48) : rates (ix1 k) = ((Spec.freq k.val : ℝ) : EReal) := by
  pointwise [rates]
  have h : (BitVec.ofNat 32 k.val).toInt = (k.val : Int) :=
    (by decide +kernel : ∀ k : Fin 48, (BitVec.ofNat 32 k.val).toInt = (k.val : Int)) k
  have p : (10000 : ℝ) ^ ((k.val : ℝ) * (1 / 48)) ≠ 0 := (Real.rpow_pos_of_pos (by norm_num) _).ne'
  rw [Consts.tenThousand, Consts.fortyEight, Spec.sitofp_eq, h, Ideal.div_coe (by norm_num), ← EReal.coe_mul, Ideal.pow_coe_coe,
    Int.cast_natCast]
  refine (Ideal.div_coe p 1).trans ?_
  rw [one_mul]
  unfold Spec.freq
  rw [Nat.mod_eq_of_lt k.isLt, one_div, mul_one_div]

/-- The product of two sizes at most 4096, as a signed value. -/
theorem product_toInt (x y : BitVec 32) (hx : x.toNat ≤ 4096) (hy : y.toNat ≤ 4096) :
    (IntOp.muli x y).toInt = x.toInt * y.toInt := by
  have h : x.toNat * y.toNat ≤ 4096 * 4096 := Nat.mul_le_mul hx hy
  have e : (x * y).toNat = x.toNat * y.toNat := by rw [BitVec.toNat_mul, Nat.mod_eq_of_lt (by omega)]
  show (x * y).toInt = x.toInt * y.toInt
  rw [BitVec.toInt_eq_toNat_of_lt (by omega), BitVec.toInt_eq_toNat_of_lt (by omega), BitVec.toInt_eq_toNat_of_lt (by omega), e]
  push_cast
  rfl

section
variable (a5 a6 : IVec S_ 32) (h5 : ∀ j, (a5 j).toNat ≤ 4096) (h6 : ∀ j, (a6 j).toNat ≤ 4096)
include h5 h6

/-- The distance between two positions. -/
theorem distance_at : Host.divf (sitofp (F := Ideal) .f32 (muli a6 a5)) (constant S_ .f32 0x41200000#32) ix0
    = ((Spec.gap a5 a6 : ℝ) : EReal) := by
  pointwise
  rw [Consts.ten, Spec.sitofp_eq, product_toInt _ _ (h6 _) (h5 _), Ideal.div_coe (by norm_num), ← EReal.coe_mul, Int.cast_mul]
  rfl

/-- A coordinate times the distance: the column at 0, the row at 1. -/
theorem places_at (x : Fin 2) (b : Fin 4) (h w : Fin 8) :
    places a5 a6 (ix4 x b h w) = ((((if x.val < 1 then w.val else h.val : ℕ) : ℝ) * Spec.gap a5 a6 : ℝ) : EReal) := by
  have hw : ∀ k : Fin 8, (BitVec.ofNat 32 k.val).toInt = (k.val : Int) := by decide +kernel
  pointwise [places]
  rw [id, distance_at a5 a6 h5 h6, Spec.sitofp_eq, Spec.sitofp_eq, hw, hw, EReal.coe_mul]
  by_cases hx : x.val < 1
  · rw [dif_pos hx, if_pos hx, Int.cast_natCast]
  · rw [dif_neg hx, if_neg hx, Int.cast_natCast]

/-- The column's phases, over flat positions. -/
theorem angles0_at (n : Fin 256) (k : Fin 48) :
    angles0 a5 a6 (ix2 n k) = ((((n.val % 8 : ℕ) : ℝ) * Spec.gap a5 a6 * Spec.freq k.val : ℝ) : EReal) := by
  pointwise [angles0]
  rw [places_at a5 a6 h5 h6, rates_at, ← EReal.coe_mul]
  rfl

/-- The row's phases, over flat positions. -/
theorem angles1_at (n : Fin 256) (k : Fin 48) :
    angles1 a5 a6 (ix2 n k) = ((((n.val / 8 % 8 : ℕ) : ℝ) * Spec.gap a5 a6 * Spec.freq k.val : ℝ) : EReal) := by
  pointwise [angles1]
  rw [places_at a5 a6 h5 h6, rates_at, ← EReal.coe_mul]
  rfl

/-- The spatial code, read at an index. -/
theorem spatial_at (b : Fin 4) (h w : Fin 8) (k : Fin 192) :
    spatial a5 a6 (ix4 b h w k) = ((Spec.wave (Spec.gap a5 a6) h.val w.val k.val : ℝ) : EReal) := by
  pointwise [spatial]
  simp only [angles0_at a5 a6 h5 h6, angles1_at a5 a6 h5 h6, Ideal.sin_coe, Ideal.cos_coe,
    show (b.val * 64 + h.val * 8 + w.val) % 8 = w.val by omega,
    show (b.val * 64 + h.val * 8 + w.val) / 8 % 8 = h.val by omega]
  unfold Spec.wave Spec.phase
  by_cases e : k.val < 96
  · rw [dif_pos e, if_pos e]
    by_cases f : k.val < 48
    · rw [dif_pos f, if_pos (by omega)]
    · rw [dif_neg f, if_neg (by omega), show Spec.freq (k.val - 48) = Spec.freq k.val by
        unfold Spec.freq; rw [show (k.val - 48) % 48 = k.val % 48 by omega]]
  · rw [dif_neg e, if_neg e]
    by_cases f : k.val - 96 < 48
    · rw [dif_pos f, if_pos (by omega), show Spec.freq (k.val - 96) = Spec.freq k.val by
        unfold Spec.freq; rw [show (k.val - 96) % 48 = k.val % 48 by omega]]
    · rw [dif_neg f, if_neg (by omega), show Spec.freq (k.val - 96 - 48) = Spec.freq k.val by
        unfold Spec.freq; rw [show (k.val - 96 - 48) % 48 = k.val % 48 by omega]]

end

end Cert.ReferenceIdeal.Terms
end
-- ==== Proof.ReferenceTake.lean ====
/- The reference's month rows: a table row for each month, taken with the index checked against the table. -/
module

public import proofs.«01_k».proof.Proof.Gen.ReferenceIdeal
public import proofs.«01_k».proof.Proof.Spec
public import Idealize.ShloMosaic.Lib.Pointwise
public import Idealize.ShloMosaic.Lib.ReduceAll

@[expose] public section

set_option maxRecDepth 16384

noncomputable section

namespace Cert.ReferenceIdeal.Terms

open Cert.ReferenceIdeal Cert.ReferenceIdeal.Gen
open Idealize.ShloMosaic Idealize.ShloMosaic.TcCoe Idealize.SL.Sem

/-- The months as table rows, a negative one counted from the end. -/
def rowsOf (a4 : IVec S4x12 32) : IVec S4x12x1 32 :=
  broadcastInDim S4x12x1 ![0, 1] bcast_S4x12_S4x12x1_0_1 (select (cmpi .slt a4 (broadcastInDim S4x12 ![] bcast_S_S4x12 (constantI S_ 32 0#32))) (addi a4 (broadcastInDim S4x12 ![] bcast_S_S4x12 (constantI S_ 32 12#32))) a4)

/-- Whether each is a row of the table. -/
def inTable (a4 : IVec S4x12 32) : IVec S4x12 1 :=
  Host.reduce IntOp.andi (andi (cmpi .sge (rowsOf a4) (broadcastInDim S4x12x1 ![] bcast_S_S4x12x1 (constantI S_ 32 0#32))) (cmpi .sle (rowsOf a4) (broadcastInDim S4x12x1 ![0, 1, 2] bcast_S1x1x1_S4x12x1_0_1_2 (broadcastInDim S1x1x1 ![2] bcast_S1_S1x1x1_2 (constantI S1 32 11#32))))) (constantI S_ 1 1#1) reducesTo_S4x12x1_S4x12_d2 h_S_

/-- The month rows over batch and time. -/
def taken (a4 : IVec S4x12 32) (a8 : FVec Ideal S12x192 .f32) : FVec Ideal S4x12x192 .f32 :=
  select (broadcastInDim S4x12x192 ![0, 1] bcast_S4x12_S4x12x192_0_1 (inTable a4))
    (Host.gather gather_S12x192_S4x12x1_S4x12x192_2_0_n_n_0_2_1192 a8 (rowsOf a4))
    (broadcastInDim S4x12x192 ![] bcast_S_S4x12x192 (constant S_ .f32 0x7FC00000#32))

/-- A row of the table at each index, clamped into it. -/
theorem rows_gathered (x : FVec Ideal S12x192 .f32) (i : IVec S4x12x1 32) (b : Fin 4) (t : Fin 12) (k : Fin 192) :
    Host.gather gather_S12x192_S4x12x1_S4x12x192_2_0_n_n_0_2_1192 x i (ix3 b t k)
      = x (ix2 (⟨min (i (ix3 b t 0)).toInt.toNat 11, by omega⟩ : Fin 12) k) := by
  unfold Host.gather
  refine congrArg x (funext fun a => Fin.ext ?_)
  show gather_S12x192_S4x12x1_S4x12x192_2_0_n_n_0_2_1192.start (ix3 b t k) i a
      + gather_S12x192_S4x12x1_S4x12x192_2_0_n_n_0_2_1192.batchCoord (ix3 b t k) a
      + gather_S12x192_S4x12x1_S4x12x192_2_0_n_n_0_2_1192.offCoord (ix3 b t k) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S12x192_S4x12x1_S4x12x192_2_0_n_n_0_2_1192.startIndexMap from
      List.mem_singleton.mpr rfl)]
    refine congrArg (fun j => min (i j).toInt.toNat 11 + 0 + 0) (funext fun d => Fin.ext ?_)
    match d with
    | ⟨0, _⟩ => rfl
    | ⟨1, _⟩ => rfl
    | ⟨2, _⟩ => rfl
  · have hn : (1 : Fin 2) ∉ gather_S12x192_S4x12x1_S4x12x192_2_0_n_n_0_2_1192.startIndexMap := by
      show (1 : Fin 2) ∉ [(0 : Fin 2)]
      decide
    have hk : (1 : Fin 2) ∈ gather_S12x192_S4x12x1_S4x12x192_2_0_n_n_0_2_1192.sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start
    rw [dif_neg hn]
    unfold GatherDims.offCoord
    rw [dif_pos hk, Nat.zero_add]
    rfl

/-- A word below 12 is one of twelve. -/
theorem word_lt_12 (w : BitVec 32) (h : w.toNat < 12) : ∃ n : Fin 12, w = BitVec.ofNat 32 n.val :=
  ⟨⟨w.toNat, h⟩, (BitVec.ofNat_toNat 32 w ▸ (BitVec.setWidth_eq w).symm)⟩

/-- A word below 12 is not negative: it stays as it is. -/
theorem word_kept : ∀ n : Fin 12, Scalar.select (IntOp.cmpi .slt (BitVec.ofNat 32 n.val) 0#32)
    (IntOp.addi (BitVec.ofNat 32 n.val) 12#32) (BitVec.ofNat 32 n.val) = BitVec.ofNat 32 n.val := by
  decide +kernel

/-- A word below 12 passes the table's check. -/
theorem word_passes : ∀ n : Fin 12, IntOp.andi (IntOp.cmpi .sge (BitVec.ofNat 32 n.val) 0#32)
    (IntOp.cmpi .sle (BitVec.ofNat 32 n.val) 11#32) = 1#1 := by
  decide +kernel

/-- A word below 12 has its value, read with or without sign. -/
theorem word_value : ∀ n : Fin 12, min (BitVec.ofNat 32 n.val).toInt.toNat 11 = min (BitVec.ofNat 32 n.val).toNat 11 := by
  decide +kernel

section
variable (a4 : IVec S4x12 32) (h4 : ∀ j, (a4 j).toNat < 12)
include h4

/-- A month in range is its own row. -/
theorem rowsOf_at (b : Fin 4) (t : Fin 12) : rowsOf a4 (ix3 b t 0) = a4 (ix2 b t) := by
  obtain ⟨n, e⟩ := word_lt_12 _ (h4 (ix2 b t))
  pointwise [rowsOf]
  rw [e]
  exact word_kept n

/-- A month in range passes the check. -/
theorem inTable_at (b : Fin 4) (t : Fin 12) : inTable a4 (ix2 b t) = 1#1 := by
  unfold inTable
  refine Host.reduce_andi_one _ _ _ _ _ rfl fun i => ?_
  idx_vars i
  obtain ⟨n, e⟩ := word_lt_12 _ (h4 (ix2 i0 i1))
  have z : i2 = 0 := Subsingleton.elim _ _
  subst z
  pointwise
  rw [rowsOf_at a4 h4, e]
  exact word_passes n

/-- The month rows, read at an index. -/
theorem taken_at (a8 : FVec Ideal S12x192 .f32) (b : Fin 4) (t : Fin 12) (k : Fin 192) :
    taken a4 a8 (ix3 b t k) = a8 (ix2 (Spec.month (a4 (ix2 b t))) k) := by
  obtain ⟨n, e⟩ := word_lt_12 _ (h4 (ix2 b t))
  pointwise [taken]
  rw [inTable_at a4 h4, rows_gathered]
  refine congrArg (fun j => a8 (ix2 j k)) (Fin.ext ?_)
  show min (rowsOf a4 (ix3 b t 0)).toInt.toNat 11 = min (a4 (ix2 b t)).toNat 11
  rw [rowsOf_at a4 h4, e]
  exact word_value n

end

end Cert.ReferenceIdeal.Terms
end
-- ==== Proof.ReferenceResults.lean ====
/- The reference's four results, read at an index, as plain formulas of the arguments. -/
module

public import proofs.«01_k».proof.Proof.ReferenceSpatial
public import proofs.«01_k».proof.Proof.ReferenceTake

@[expose] public section

set_option maxRecDepth 16384

noncomputable section

namespace Cert.ReferenceIdeal.Terms

open Cert.ReferenceIdeal Cert.ReferenceIdeal.Gen
open Idealize.ShloMosaic Idealize.ShloMosaic.TcCoe Idealize.SL.Sem

/-- The first result. -/
def whole0 (a0 : FVec Ideal S4x8x8x12x7x768 .f32) (a4 : IVec S4x12 32) (a5 a6 : IVec S_ 32) (a7 : FVec Ideal S24x192 .f32) (a8 : FVec Ideal S12x192 .f32) (a9 : FVec Ideal S7x192 .f32) : FVec Ideal S4x8x8x12x7x768 .f32 :=
  addf a0 ((concatenate S4x8x8x12x7x768 5
    [⟨S4x8x8x12x7x192, ((broadcastInDim S4x8x8x12x7x192 ![0, 1, 2, 3, 4, 5] bcast_S1x1x1x1x7x192_S4x8x8x12x7x192_0_1_2_3_4_5 (broadcastInDim S1x1x1x1x7x192 ![4, 5] bcast_S7x192_S1x1x1x1x7x192_4_5 a9)))⟩,
      ⟨S4x8x8x12x7x192, ((broadcastInDim S4x8x8x12x7x192 ![0, 1, 2, 3, 4, 5] bcast_S1x1x1x12x1x192_S4x8x8x12x7x192_0_1_2_3_4_5 (broadcastInDim S1x1x1x12x1x192 ![3, 5] bcast_S12x192_S1x1x1x12x1x192_3_5 (extractStridedSlice S12x192 ![0, 0] a7 slices_S24x192_S12x192_0_0))))⟩,
      ⟨S4x8x8x12x7x192, ((broadcastInDim S4x8x8x12x7x192 ![0, 1, 2, 3, 4, 5] bcast_S4x1x1x12x1x192_S4x8x8x12x7x192_0_1_2_3_4_5 (broadcastInDim S4x1x1x12x1x192 ![0, 3, 5] bcast_S4x12x192_S4x1x1x12x1x192_0_3_5 (taken a4 a8))))⟩,
      ⟨S4x8x8x12x7x192, ((broadcastInDim S4x8x8x12x7x192 ![0, 1, 2, 3, 4, 5] bcast_S4x8x8x1x1x192_S4x8x8x12x7x192_0_1_2_3_4_5 (broadcastInDim S4x8x8x1x1x192 ![0, 1, 2, 5] bcast_S4x8x8x192_S4x8x8x1x1x192_0_1_2_5 (spatial a5 a6))))⟩]
    concatenates_S4x8x8x12x7x192_S4x8x8x12x7x192_S4x8x8x12x7x192_S4x8x8x12x7x192_S4x8x8x12x7x768_d5))

/-- The second result. -/
def whole1 (a1 : FVec Ideal S4x8x8x3x768 .f32) (a5 a6 : IVec S_ 32) (a10 : FVec Ideal S3x192 .f32) : FVec Ideal S4x8x8x3x768 .f32 :=
  addf a1 ((concatenate S4x8x8x3x768 4
    [⟨S4x8x8x3x192, ((broadcastInDim S4x8x8x3x192 ![0, 1, 2, 3, 4] bcast_S1x1x1x3x192_S4x8x8x3x192_0_1_2_3_4 (broadcastInDim S1x1x1x3x192 ![3, 4] bcast_S3x192_S1x1x1x3x192_3_4 a10)))⟩,
      ⟨S4x8x8x3x384, ((broadcastInDim S4x8x8x3x384 ![] bcast_S_S4x8x8x3x384 (constant (F := Ideal) S_ .f32 0x00000000#32)))⟩,
      ⟨S4x8x8x3x192, ((broadcastInDim S4x8x8x3x192 ![0, 1, 2, 3, 4] bcast_S4x8x8x1x192_S4x8x8x3x192_0_1_2_3_4 (broadcastInDim S4x8x8x1x192 ![0, 1, 2, 4] bcast_S4x8x8x192_S4x8x8x1x192_0_1_2_4 (spatial a5 a6))))⟩]
    concatenates_S4x8x8x3x192_S4x8x8x3x384_S4x8x8x3x192_S4x8x8x3x768_d4))

/-- The third result. -/
def whole2 (a2 : FVec Ideal S4x12x3x768 .f32) (a4 : IVec S4x12 32) (a7 : FVec Ideal S24x192 .f32) (a8 : FVec Ideal S12x192 .f32) (a11 : FVec Ideal S3x192 .f32) : FVec Ideal S4x12x3x768 .f32 :=
  addf a2 ((concatenate S4x12x3x768 3
    [⟨S4x12x3x192, ((broadcastInDim S4x12x3x192 ![0, 1, 2, 3] bcast_S1x1x3x192_S4x12x3x192_0_1_2_3 (broadcastInDim S1x1x3x192 ![2, 3] bcast_S3x192_S1x1x3x192_2_3 a11)))⟩,
      ⟨S4x12x3x192, ((broadcastInDim S4x12x3x192 ![0, 1, 2, 3] bcast_S1x12x1x192_S4x12x3x192_0_1_2_3 (broadcastInDim S1x12x1x192 ![1, 3] bcast_S12x192_S1x12x1x192_1_3 (extractStridedSlice S12x192 ![0, 0] a7 slices_S24x192_S12x192_0_0))))⟩,
      ⟨S4x12x3x192, ((broadcastInDim S4x12x3x192 ![0, 1, 2, 3] bcast_S4x12x1x192_S4x12x3x192_0_1_2_3 (broadcastInDim S4x12x1x192 ![0, 1, 3] bcast_S4x12x192_S4x12x1x192_0_1_3 (taken a4 a8))))⟩,
      ⟨S4x12x3x192, ((broadcastInDim S4x12x3x192 ![] bcast_S_S4x12x3x192 (constant (F := Ideal) S_ .f32 0x00000000#32)))⟩]
    concatenates_S4x12x3x192_S4x12x3x192_S4x12x3x192_S4x12x3x192_S4x12x3x768_d3))

/-- The fourth result. -/
def whole3 (a3 : FVec Ideal S4x3x768 .f32) (a12 : FVec Ideal S3x192 .f32) : FVec Ideal S4x3x768 .f32 :=
  addf a3 (concatenate S4x3x768 2
    [⟨S4x3x192, (broadcastInDim S4x3x192 ![0, 1, 2] bcast_S1x3x192_S4x3x192_0_1_2 (broadcastInDim S1x3x192 ![1, 2] bcast_S3x192_S1x3x192_1_2 a12))⟩,
      ⟨S4x3x576, (broadcastInDim S4x3x576 ![] bcast_S_S4x3x576 (constant (F := Ideal) S_ .f32 0x00000000#32))⟩]
    concatenates_S4x3x192_S4x3x576_S4x3x768_d2)

/-- The first result, read at an index. -/
theorem whole0_at (a0 : FVec Ideal S4x8x8x12x7x768 .f32) (a4 : IVec S4x12 32) (a5 a6 : IVec S_ 32)
    (h4 : ∀ j, (a4 j).toNat < 12) (h5 : ∀ j, (a5 j).toNat ≤ 4096) (h6 : ∀ j, (a6 j).toNat ≤ 4096)
    (a7 : FVec Ideal S24x192 .f32) (a8 : FVec Ideal S12x192 .f32) (a9 : FVec Ideal S7x192 .f32)
    (b : Fin 4) (h w : Fin 8) (t : Fin 12) (n : Fin 7) (l : Fin 768) :
    whole0 a0 a4 a5 a6 a7 a8 a9 (ix6 b h w t n l) = Spec.full0 a0 a4 a7 a8 a9 (Spec.gap a5 a6) b h w t n l := by
  pointwise [whole0]
  simp only [taken_at a4 h4, spatial_at a5 a6 h5 h6]
  unfold Spec.full0 Spec.bands
  by_cases e : l.val < 192
  · rw [dif_pos e, dif_pos e]
  · by_cases e2 : l.val < 384
    · rw [dif_neg e, dif_pos (by omega), dif_neg e, dif_pos e2]
    · by_cases e3 : l.val < 576
      · rw [dif_neg e, dif_neg (by omega), dif_pos (by omega), dif_neg e, dif_neg e2, dif_pos e3]
        rfl
      · rw [dif_neg e, dif_neg (by omega), dif_neg (by omega), dif_neg e, dif_neg e2, dif_neg e3]
        rfl

/-- The second result, read at an index. -/
theorem whole1_at (a1 : FVec Ideal S4x8x8x3x768 .f32) (a5 a6 : IVec S_ 32)
    (h5 : ∀ j, (a5 j).toNat ≤ 4096) (h6 : ∀ j, (a6 j).toNat ≤ 4096) (a10 : FVec Ideal S3x192 .f32)
    (b : Fin 4) (h w : Fin 8) (n : Fin 3) (l : Fin 768) :
    whole1 a1 a5 a6 a10 (ix5 b h w n l) = Spec.full1 a1 a10 (Spec.gap a5 a6) b h w n l := by
  pointwise [whole1]
  simp only [spatial_at a5 a6 h5 h6]
  unfold Spec.full1 Spec.bands
  by_cases e : l.val < 192
  · rw [dif_pos e, dif_pos e]
  · by_cases e2 : l.val < 384
    · rw [dif_neg e, dif_pos (by omega), dif_neg e, dif_pos e2]
    · by_cases e3 : l.val < 576
      · rw [dif_neg e, dif_pos (by omega), dif_neg e, dif_neg e2, dif_pos e3]
      · rw [dif_neg e, dif_neg (by omega), dif_neg e, dif_neg e2, dif_neg e3]
        rfl

/-- The third result, read at an index. -/
theorem whole2_at (a2 : FVec Ideal S4x12x3x768 .f32) (a4 : IVec S4x12 32) (h4 : ∀ j, (a4 j).toNat < 12)
    (a7 : FVec Ideal S24x192 .f32) (a8 : FVec Ideal S12x192 .f32) (a11 : FVec Ideal S3x192 .f32)
    (b : Fin 4) (t : Fin 12) (n : Fin 3) (l : Fin 768) :
    whole2 a2 a4 a7 a8 a11 (ix4 b t n l) = Spec.full2 a2 a4 a7 a8 a11 b t n l := by
  pointwise [whole2]
  simp only [taken_at a4 h4]
  unfold Spec.full2 Spec.bands
  by_cases e : l.val < 192
  · rw [dif_pos e, dif_pos e]
  · by_cases e2 : l.val < 384
    · rw [dif_neg e, dif_pos (by omega), dif_neg e, dif_pos e2]
    · by_cases e3 : l.val < 576
      · rw [dif_neg e, dif_neg (by omega), dif_pos (by omega), dif_neg e, dif_neg e2, dif_pos e3]
        rfl
      · rw [dif_neg e, dif_neg (by omega), dif_neg (by omega), dif_neg e, dif_neg e2, dif_neg e3]

/-- The fourth result, read at an index. -/
theorem whole3_at (a3 : FVec Ideal S4x3x768 .f32) (a12 : FVec Ideal S3x192 .f32) (b : Fin 4) (n : Fin 3) (l : Fin 768) :
    whole3 a3 a12 (ix3 b n l) = Spec.full3 a3 a12 b n l := by
  pointwise [whole3]
  unfold Spec.full3 Spec.bands
  by_cases e : l.val < 192
  · rw [dif_pos e, dif_pos e]
  · by_cases e2 : l.val < 384
    · rw [dif_neg e, dif_neg e, dif_pos e2]
    · by_cases e3 : l.val < 576
      · rw [dif_neg e, dif_neg e, dif_neg e2, dif_pos e3]
      · rw [dif_neg e, dif_neg e, dif_neg e2, dif_neg e3]

end Cert.ReferenceIdeal.Terms
end
-- ==== Proof.ReferenceRun.lean ====
/- The reference's run: each result is the named term of the arguments, and the arguments stay as they were. -/
module

public import proofs.«01_k».proof.Proof.Gen.ReferenceIdeal.Run
public import proofs.«01_k».proof.Proof.ReferenceResults

@[expose] public section

set_option maxRecDepth 16384

noncomputable section

namespace Cert.ReferenceIdeal.Terms

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The first result's term. -/
theorem term0 (c : Dev nD) : Value.res_main_v88 m c = whole0 (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- The second result's term. -/
theorem term1 (c : Dev nD) : Value.res_main_v89 m c = whole1 (m ((c.tc : Thread nD τ).loc main_arg1)) (m ((c.tc : Thread nD τ).loc main_arg5)) (m ((c.tc : Thread nD τ).loc main_arg6)) (m ((c.tc : Thread nD τ).loc main_arg10)) := rfl

/-- Every execution ends with the four results at these terms and the arguments as they were. -/
theorem run_whole : θ_run defs (onTc (τ := τ) (main (F := Ideal))) ⟨m, fun _ => 0, ρ⟩ fun r => ∀ c : Dev nD,
      r.2.mem ((c.tc : Thread nD τ).loc main_v88) = whole0 (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v89) = whole1 (m ((c.tc : Thread nD τ).loc main_arg1)) (m ((c.tc : Thread nD τ).loc main_arg5)) (m ((c.tc : Thread nD τ).loc main_arg6)) (m ((c.tc : Thread nD τ).loc main_arg10))
      ∧ r.2.mem ((c.tc : Thread nD τ).loc main_v90) = whole2 (m ((c.tc : Thread nD τ).loc main_arg2)) (m ((c.tc : Thread nD τ).loc main_arg4)) (m ((c.tc : Thread nD τ).loc main_arg7)) (m ((c.tc : Thread nD τ).loc main_arg8)) (m ((c.tc : Thread nD τ).loc main_arg11))
      ∧ r.2.mem ((c.tc : Thread nD τ).loc main_v91) = whole3 (m ((c.tc : Thread nD τ).loc main_arg3)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (term0 m c), (h c).2.1.trans (term1 m c), (h c).2.2.1.trans rfl,
    (h c).2.2.2.1.trans rfl, (h c).2.2.2.2⟩) (Value.run (F := Ideal) m ρ)

end Cert.ReferenceIdeal.Terms
end
-- ==== Proof.Equation.lean ====
/- The kernel over the extended reals and the reference compute the same four results. -/
module

public import proofs.«01_k».proof.Proof.Range
public import proofs.«01_k».proof.Proof.Gen.Pre_in_range
public import proofs.«01_k».proof.Proof.KernelIdealRun
public import proofs.«01_k».proof.Proof.ReferenceRun

@[expose] public section

set_option maxRecDepth 16384

noncomputable section

namespace Cert.Equation

open Idealize.ShloMosaic Idealize.ShloMosaic.TcCoe Idealize.SL.Sem

/-- From arguments in the range, the kernel and the reference end with the same four results. -/
theorem algebraic : Cert.algebraic_KernelIdeal_ReferenceIdeal := by
  intro m g m' g' hpre hagree
  refine ⟨fun c => Pipeline.afterTail₀ Cert.KernelIdeal.cfgs (Cert.KernelIdeal.Point.dats m) 0 (Cert.KernelIdeal.Gen.V0 m) [Cert.KernelIdeal.Gen.hostOps1] c Cert.KernelIdeal.main_v12, fun c => Pipeline.afterTail₀ Cert.KernelIdeal.cfgs (Cert.KernelIdeal.Point.dats m) 0 (Cert.KernelIdeal.Gen.V0 m) [Cert.KernelIdeal.Gen.hostOps1] c Cert.KernelIdeal.main_v13, fun c => Pipeline.afterTail₀ Cert.KernelIdeal.cfgs (Cert.KernelIdeal.Point.dats m) 0 (Cert.KernelIdeal.Gen.V0 m) [Cert.KernelIdeal.Gen.hostOps1] c Cert.KernelIdeal.main_v14, fun c => Pipeline.afterTail₀ Cert.KernelIdeal.cfgs (Cert.KernelIdeal.Point.dats m) 0 (Cert.KernelIdeal.Gen.V0 m) [Cert.KernelIdeal.Gen.hostOps1] c Cert.KernelIdeal.main_v15,
    Cert.KernelIdeal.Point.run_whole m g (Cert.KernelIdeal.Point.inRange_of m fun c j => (Cert.Range.decode (hpre c)).1 j), ?_⟩
  refine (θ_run Cert.ReferenceIdeal.defs _ _).mono (fun _ h c => ?_) (Cert.ReferenceIdeal.Terms.run_whole m' g')
  obtain ⟨h4, h5, h6⟩ := Cert.Range.decode (hpre c)
  obtain ⟨e0, e1, e2, e3, e4, e5, e6, e7, e8, e9, e10, e11, e12⟩ := hagree c
  refine ⟨(h c).1.trans ?_, (h c).2.1.trans ?_, (h c).2.2.1.trans ?_, (h c).2.2.2.1.trans ?_, (h c).2.2.2.2⟩
  · rw [e0, e4, e5, e6, e7, e8, e9]
    funext i
    rw [eq_ix6 i]
    exact (Cert.ReferenceIdeal.Terms.whole0_at _ _ _ _ h4 h5 h6 _ _ _ _ _ _ _ _ _).trans
      (Cert.KernelIdeal.Point.result0 m c _ _ _ _ _ _).symm
  · rw [e1, e5, e6, e10]
    funext i
    rw [eq_ix5 i]
    exact (Cert.ReferenceIdeal.Terms.whole1_at _ _ _ h5 h6 _ _ _ _ _ _).trans
      (Cert.KernelIdeal.Point.result1 m c _ _ _ _ _).symm
  · rw [e2, e4, e7, e8, e11]
    funext i
    rw [eq_ix4 i]
    exact (Cert.ReferenceIdeal.Terms.whole2_at _ _ h4 _ _ _ _ _ _ _).trans
      (Cert.KernelIdeal.Point.result2 m c _ _ _ _).symm
  · rw [e3, e12]
    funext i
    rw [eq_ix3 i]
    exact (Cert.ReferenceIdeal.Terms.whole3_at _ _ _ _ _).trans (Cert.KernelIdeal.Point.result3 m c _ _ _).symm

end Cert.Equation
end
-- ==== Proof.lean ====
module

public import proofs.«01_k».proof.Defs
public import proofs.«01_k».proof.Proof.Frames
public import proofs.«01_k».proof.Proof.Equation

@[expose] public section

noncomputable section

/-!
The certificate: the claims of the other modules, put together.
-/

namespace Cert.Proof

open Idealize.ShloMosaic

theorem claim : Cert.Claim :=
  ⟨Cert.Kernel.Gen.facts, Cert.KernelIdeal.Gen.facts, Cert.ReferenceIdeal.Gen.facts, Cert.Pre_in_range.Gen.facts,
    Cert.Frames.kernel, Cert.Frames.kernelIdeal, Cert.Frames.reference,
    Cert.Frames.reference_in_range, Cert.Frames.preserves, Cert.Equation.algebraic⟩

end Cert.Proof

end
